-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S1 : Shape := ⟨1, ![1]⟩
abbrev S4096x64 : Shape := ⟨2, ![4096, 64]⟩
abbrev S4x4096x256 : Shape := ⟨3, ![4, 4096, 256]⟩
abbrev S32x64x128 : Shape := ⟨3, ![32, 64, 128]⟩
abbrev S4 : Shape := ⟨1, ![4]⟩
abbrev S32 : Shape := ⟨1, ![32]⟩
abbrev S_ : Shape := ⟨0, ![]⟩
abbrev S1x4096x256 : Shape := ⟨3, ![1, 4096, 256]⟩
abbrev S4096x256 : Shape := ⟨2, ![4096, 256]⟩
abbrev S256x128 : Shape := ⟨2, ![256, 128]⟩
abbrev S64x128 : Shape := ⟨2, ![64, 128]⟩
abbrev S1x64x128 : Shape := ⟨3, ![1, 64, 128]⟩
abbrev S128x64 : Shape := ⟨2, ![128, 64]⟩

abbrev nBuf : Space → Nat
  | .hbm => 5
  | .vmem => 5
  | .smem => 2
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S4x4096x256, .f32⟩
  | .local _ .vmem, ⟨3, _⟩ => ⟨S32x64x128, .bf16⟩
  | .local _ .vmem, ⟨4, _⟩ => ⟨S32x64x128, .bf16⟩
  | .local _ .smem, ⟨0, _⟩ => ⟨S1, .f32⟩
  | .local _ .smem, ⟨1, _⟩ => ⟨S1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 33 72 bufScoped semScoped dmaSemScoped tileCredit tileCredit_eq_zero tileCredit_pos).withBarriers [(0, 32)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 32

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_2 : BitVec 32 := 0#32
  let v6 : BitVec 1 := Scalar.cmpi .ne v5 c0_i32_2
  v6

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev1 : Nat :=
  let c0_i32_739 : BitVec 32 := 0#32
  let c0_i32_737 : BitVec 32 := 0#32
  let c1_i32_738 : BitVec 32 := 1#32
  let v939 : BitVec 32 := Scalar.muli c0_i32_737 c1_i32_738
  let v940 : BitVec 32 := Scalar.addi c0_i32_739 v939
  v940.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v7 : BitVec 1 := Scalar.cmpi .ne v2 c1_i32_3
  let v8 : BitVec 32 := Scalar.extui v7
  let c0_i32_4 : BitVec 32 := 0#32
  let v9 : BitVec 1 := Scalar.cmpi .ne v8 c0_i32_4
  v9

def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev2 : Nat :=
  let c0_i32_739 : BitVec 32 := 0#32
  let c1_i32_737 : BitVec 32 := 1#32
  let c1_i32_738 : BitVec 32 := 1#32
  let v939 : BitVec 32 := Scalar.muli c1_i32_737 c1_i32_738
  let v940 : BitVec 32 := Scalar.addi c0_i32_739 v939
  v940.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_5 : BitVec 32 := 0#32
  let v12 : BitVec 1 := Scalar.cmpi .ne v11 c0_i32_5
  v12

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev3 : Nat :=
  let c0_i32_739 : BitVec 32 := 0#32
  let c2_i32_737 : BitVec 32 := 2#32
  let c1_i32_738 : BitVec 32 := 1#32
  let v939 : BitVec 32 := Scalar.muli c2_i32_737 c1_i32_738
  let v940 : BitVec 32 := Scalar.addi c0_i32_739 v939
  v940.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_6 : BitVec 32 := 0#32
  let v15 : BitVec 1 := Scalar.cmpi .ne v14 c0_i32_6
  v15

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev4 : Nat :=
  let c0_i32_739 : BitVec 32 := 0#32
  let c3_i32_737 : BitVec 32 := 3#32
  let c1_i32_738 : BitVec 32 := 1#32
  let v939 : BitVec 32 := Scalar.muli c3_i32_737 c1_i32_738
  let v940 : BitVec 32 := Scalar.addi c0_i32_739 v939
  v940.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_7 : BitVec 32 := 0#32
  let v18 : BitVec 1 := Scalar.cmpi .ne v17 c0_i32_7
  v18

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev5 : Nat :=
  let c0_i32_739 : BitVec 32 := 0#32
  let c4_i32_737 : BitVec 32 := 4#32
  let c1_i32_738 : BitVec 32 := 1#32
  let v939 : BitVec 32 := Scalar.muli c4_i32_737 c1_i32_738
  let v940 : BitVec 32 := Scalar.addi c0_i32_739 v939
  v940.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_8 : BitVec 32 := 0#32
  let v21 : BitVec 1 := Scalar.cmpi .ne v20 c0_i32_8
  v21

def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev6 : Nat :=
  let c0_i32_739 : BitVec 32 := 0#32
  let c5_i32_737 : BitVec 32 := 5#32
  let c1_i32_738 : BitVec 32 := 1#32
  let v939 : BitVec 32 := Scalar.muli c5_i32_737 c1_i32_738
  let v940 : BitVec 32 := Scalar.addi c0_i32_739 v939
  v940.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_9 : BitVec 32 := 0#32
  let v24 : BitVec 1 := Scalar.cmpi .ne v23 c0_i32_9
  v24

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev7 : Nat :=
  let c0_i32_739 : BitVec 32 := 0#32
  let c6_i32_737 : BitVec 32 := 6#32
  let c1_i32_738 : BitVec 32 := 1#32
  let v939 : BitVec 32 := Scalar.muli c6_i32_737 c1_i32_738
  let v940 : BitVec 32 := Scalar.addi c0_i32_739 v939
  v940.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_10 : BitVec 32 := 0#32
  let v27 : BitVec 1 := Scalar.cmpi .ne v26 c0_i32_10
  v27

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev8 : Nat :=
  let c0_i32_739 : BitVec 32 := 0#32
  let c7_i32_737 : BitVec 32 := 7#32
  let c1_i32_738 : BitVec 32 := 1#32
  let v939 : BitVec 32 := Scalar.muli c7_i32_737 c1_i32_738
  let v940 : BitVec 32 := Scalar.addi c0_i32_739 v939
  v940.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_11 : BitVec 32 := 0#32
  let v30 : BitVec 1 := Scalar.cmpi .ne v29 c0_i32_11
  v30

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev9 : Nat :=
  let c0_i32_739 : BitVec 32 := 0#32
  let c8_i32_737 : BitVec 32 := 8#32
  let c1_i32_738 : BitVec 32 := 1#32
  let v939 : BitVec 32 := Scalar.muli c8_i32_737 c1_i32_738
  let v940 : BitVec 32 := Scalar.addi c0_i32_739 v939
  v940.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_12 : BitVec 32 := 0#32
  let v33 : BitVec 1 := Scalar.cmpi .ne v32 c0_i32_12
  v33

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev10 : Nat :=
  let c0_i32_739 : BitVec 32 := 0#32
  let c9_i32_737 : BitVec 32 := 9#32
  let c1_i32_738 : BitVec 32 := 1#32
  let v939 : BitVec 32 := Scalar.muli c9_i32_737 c1_i32_738
  let v940 : BitVec 32 := Scalar.addi c0_i32_739 v939
  v940.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_13 : BitVec 32 := 0#32
  let v36 : BitVec 1 := Scalar.cmpi .ne v35 c0_i32_13
  v36

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev11 : Nat :=
  let c0_i32_739 : BitVec 32 := 0#32
  let c10_i32_737 : BitVec 32 := 10#32
  let c1_i32_738 : BitVec 32 := 1#32
  let v939 : BitVec 32 := Scalar.muli c10_i32_737 c1_i32_738
  let v940 : BitVec 32 := Scalar.addi c0_i32_739 v939
  v940.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_14 : BitVec 32 := 0#32
  let v39 : BitVec 1 := Scalar.cmpi .ne v38 c0_i32_14
  v39

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev12 : Nat :=
  let c0_i32_739 : BitVec 32 := 0#32
  let c11_i32_737 : BitVec 32 := 11#32
  let c1_i32_738 : BitVec 32 := 1#32
  let v939 : BitVec 32 := Scalar.muli c11_i32_737 c1_i32_738
  let v940 : BitVec 32 := Scalar.addi c0_i32_739 v939
  v940.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_15 : BitVec 32 := 0#32
  let v42 : BitVec 1 := Scalar.cmpi .ne v41 c0_i32_15
  v42

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev13 : Nat :=
  let c0_i32_739 : BitVec 32 := 0#32
  let c12_i32_737 : BitVec 32 := 12#32
  let c1_i32_738 : BitVec 32 := 1#32
  let v939 : BitVec 32 := Scalar.muli c12_i32_737 c1_i32_738
  let v940 : BitVec 32 := Scalar.addi c0_i32_739 v939
  v940.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_16 : BitVec 32 := 0#32
  let v45 : BitVec 1 := Scalar.cmpi .ne v44 c0_i32_16
  v45

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev14 : Nat :=
  let c0_i32_739 : BitVec 32 := 0#32
  let c13_i32_737 : BitVec 32 := 13#32
  let c1_i32_738 : BitVec 32 := 1#32
  let v939 : BitVec 32 := Scalar.muli c13_i32_737 c1_i32_738
  let v940 : BitVec 32 := Scalar.addi c0_i32_739 v939
  v940.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_17 : BitVec 32 := 0#32
  let v48 : BitVec 1 := Scalar.cmpi .ne v47 c0_i32_17
  v48

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev15 : Nat :=
  let c0_i32_739 : BitVec 32 := 0#32
  let c14_i32_737 : BitVec 32 := 14#32
  let c1_i32_738 : BitVec 32 := 1#32
  let v939 : BitVec 32 := Scalar.muli c14_i32_737 c1_i32_738
  let v940 : BitVec 32 := Scalar.addi c0_i32_739 v939
  v940.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_18 : BitVec 32 := 0#32
  let v51 : BitVec 1 := Scalar.cmpi .ne v50 c0_i32_18
  v51

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev16 : Nat :=
  let c0_i32_739 : BitVec 32 := 0#32
  let c15_i32_737 : BitVec 32 := 15#32
  let c1_i32_738 : BitVec 32 := 1#32
  let v939 : BitVec 32 := Scalar.muli c15_i32_737 c1_i32_738
  let v940 : BitVec 32 := Scalar.addi c0_i32_739 v939
  v940.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_19 : BitVec 32 := 0#32
  let v54 : BitVec 1 := Scalar.cmpi .ne v53 c0_i32_19
  v54

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev17 : Nat :=
  let c0_i32_739 : BitVec 32 := 0#32
  let c16_i32_737 : BitVec 32 := 16#32
  let c1_i32_738 : BitVec 32 := 1#32
  let v939 : BitVec 32 := Scalar.muli c16_i32_737 c1_i32_738
  let v940 : BitVec 32 := Scalar.addi c0_i32_739 v939
  v940.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_20 : BitVec 32 := 0#32
  let v57 : BitVec 1 := Scalar.cmpi .ne v56 c0_i32_20
  v57

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev18 : Nat :=
  let c0_i32_739 : BitVec 32 := 0#32
  let c17_i32_737 : BitVec 32 := 17#32
  let c1_i32_738 : BitVec 32 := 1#32
  let v939 : BitVec 32 := Scalar.muli c17_i32_737 c1_i32_738
  let v940 : BitVec 32 := Scalar.addi c0_i32_739 v939
  v940.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_21 : BitVec 32 := 0#32
  let v60 : BitVec 1 := Scalar.cmpi .ne v59 c0_i32_21
  v60

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev19 : Nat :=
  let c0_i32_739 : BitVec 32 := 0#32
  let c18_i32_737 : BitVec 32 := 18#32
  let c1_i32_738 : BitVec 32 := 1#32
  let v939 : BitVec 32 := Scalar.muli c18_i32_737 c1_i32_738
  let v940 : BitVec 32 := Scalar.addi c0_i32_739 v939
  v940.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_22 : BitVec 32 := 0#32
  let v63 : BitVec 1 := Scalar.cmpi .ne v62 c0_i32_22
  v63

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev20 : Nat :=
  let c0_i32_739 : BitVec 32 := 0#32
  let c19_i32_737 : BitVec 32 := 19#32
  let c1_i32_738 : BitVec 32 := 1#32
  let v939 : BitVec 32 := Scalar.muli c19_i32_737 c1_i32_738
  let v940 : BitVec 32 := Scalar.addi c0_i32_739 v939
  v940.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_23 : BitVec 32 := 0#32
  let v66 : BitVec 1 := Scalar.cmpi .ne v65 c0_i32_23
  v66

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev21 : Nat :=
  let c0_i32_739 : BitVec 32 := 0#32
  let c20_i32_737 : BitVec 32 := 20#32
  let c1_i32_738 : BitVec 32 := 1#32
  let v939 : BitVec 32 := Scalar.muli c20_i32_737 c1_i32_738
  let v940 : BitVec 32 := Scalar.addi c0_i32_739 v939
  v940.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_24 : BitVec 32 := 0#32
  let v69 : BitVec 1 := Scalar.cmpi .ne v68 c0_i32_24
  v69

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev22 : Nat :=
  let c0_i32_739 : BitVec 32 := 0#32
  let c21_i32_737 : BitVec 32 := 21#32
  let c1_i32_738 : BitVec 32 := 1#32
  let v939 : BitVec 32 := Scalar.muli c21_i32_737 c1_i32_738
  let v940 : BitVec 32 := Scalar.addi c0_i32_739 v939
  v940.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_25 : BitVec 32 := 0#32
  let v72 : BitVec 1 := Scalar.cmpi .ne v71 c0_i32_25
  v72

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev23 : Nat :=
  let c0_i32_739 : BitVec 32 := 0#32
  let c22_i32_737 : BitVec 32 := 22#32
  let c1_i32_738 : BitVec 32 := 1#32
  let v939 : BitVec 32 := Scalar.muli c22_i32_737 c1_i32_738
  let v940 : BitVec 32 := Scalar.addi c0_i32_739 v939
  v940.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_26 : BitVec 32 := 0#32
  let v75 : BitVec 1 := Scalar.cmpi .ne v74 c0_i32_26
  v75

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev24 : Nat :=
  let c0_i32_739 : BitVec 32 := 0#32
  let c23_i32_737 : BitVec 32 := 23#32
  let c1_i32_738 : BitVec 32 := 1#32
  let v939 : BitVec 32 := Scalar.muli c23_i32_737 c1_i32_738
  let v940 : BitVec 32 := Scalar.addi c0_i32_739 v939
  v940.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_27 : BitVec 32 := 0#32
  let v78 : BitVec 1 := Scalar.cmpi .ne v77 c0_i32_27
  v78

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev25 : Nat :=
  let c0_i32_739 : BitVec 32 := 0#32
  let c24_i32_737 : BitVec 32 := 24#32
  let c1_i32_738 : BitVec 32 := 1#32
  let v939 : BitVec 32 := Scalar.muli c24_i32_737 c1_i32_738
  let v940 : BitVec 32 := Scalar.addi c0_i32_739 v939
  v940.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_28 : BitVec 32 := 0#32
  let v81 : BitVec 1 := Scalar.cmpi .ne v80 c0_i32_28
  v81

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev26 : Nat :=
  let c0_i32_739 : BitVec 32 := 0#32
  let c25_i32_737 : BitVec 32 := 25#32
  let c1_i32_738 : BitVec 32 := 1#32
  let v939 : BitVec 32 := Scalar.muli c25_i32_737 c1_i32_738
  let v940 : BitVec 32 := Scalar.addi c0_i32_739 v939
  v940.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_29 : BitVec 32 := 0#32
  let v84 : BitVec 1 := Scalar.cmpi .ne v83 c0_i32_29
  v84

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev27 : Nat :=
  let c0_i32_739 : BitVec 32 := 0#32
  let c26_i32_737 : BitVec 32 := 26#32
  let c1_i32_738 : BitVec 32 := 1#32
  let v939 : BitVec 32 := Scalar.muli c26_i32_737 c1_i32_738
  let v940 : BitVec 32 := Scalar.addi c0_i32_739 v939
  v940.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_30 : BitVec 32 := 0#32
  let v87 : BitVec 1 := Scalar.cmpi .ne v86 c0_i32_30
  v87

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev28 : Nat :=
  let c0_i32_739 : BitVec 32 := 0#32
  let c27_i32_737 : BitVec 32 := 27#32
  let c1_i32_738 : BitVec 32 := 1#32
  let v939 : BitVec 32 := Scalar.muli c27_i32_737 c1_i32_738
  let v940 : BitVec 32 := Scalar.addi c0_i32_739 v939
  v940.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_31 : BitVec 32 := 0#32
  let v90 : BitVec 1 := Scalar.cmpi .ne v89 c0_i32_31
  v90

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev29 : Nat :=
  let c0_i32_739 : BitVec 32 := 0#32
  let c28_i32_737 : BitVec 32 := 28#32
  let c1_i32_738 : BitVec 32 := 1#32
  let v939 : BitVec 32 := Scalar.muli c28_i32_737 c1_i32_738
  let v940 : BitVec 32 := Scalar.addi c0_i32_739 v939
  v940.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_32 : BitVec 32 := 0#32
  let v93 : BitVec 1 := Scalar.cmpi .ne v92 c0_i32_32
  v93

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev30 : Nat :=
  let c0_i32_739 : BitVec 32 := 0#32
  let c29_i32_737 : BitVec 32 := 29#32
  let c1_i32_738 : BitVec 32 := 1#32
  let v939 : BitVec 32 := Scalar.muli c29_i32_737 c1_i32_738
  let v940 : BitVec 32 := Scalar.addi c0_i32_739 v939
  v940.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_33 : BitVec 32 := 0#32
  let v96 : BitVec 1 := Scalar.cmpi .ne v95 c0_i32_33
  v96

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev31 : Nat :=
  let c0_i32_739 : BitVec 32 := 0#32
  let c30_i32_737 : BitVec 32 := 30#32
  let c1_i32_738 : BitVec 32 := 1#32
  let v939 : BitVec 32 := Scalar.muli c30_i32_737 c1_i32_738
  let v940 : BitVec 32 := Scalar.addi c0_i32_739 v939
  v940.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_34 : BitVec 32 := 0#32
  let v99 : BitVec 1 := Scalar.cmpi .ne v98 c0_i32_34
  v99

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev32 : Nat :=
  let c0_i32_739 : BitVec 32 := 0#32
  let c31_i32_737 : BitVec 32 := 31#32
  let c1_i32_738 : BitVec 32 := 1#32
  let v939 : BitVec 32 := Scalar.muli c31_i32_737 c1_i32_738
  let v940 : BitVec 32 := Scalar.addi c0_i32_739 v939
  v940.toNat
def k0_mult1 : BitVec 32 :=
  let c0_i32_35 : BitVec 32 := 0#32
  c0_i32_35
def k0_mult2 : BitVec 32 :=
  let c256_i32 : BitVec 32 := 256#32
  c256_i32
def k0_mult3 : BitVec 32 :=
  let c512_i32 : BitVec 32 := 512#32
  c512_i32
def k0_mult4 : BitVec 32 :=
  let c0_i32_54 : BitVec 32 := 0#32
  c0_i32_54
def k0_mult5 : BitVec 32 :=
  let c768_i32 : BitVec 32 := 768#32
  c768_i32
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_71 : BitVec 32 := 0#32
  let v147 : BitVec 1 := Scalar.cmpi .ne v2 c0_i32_71
  let v148 : BitVec 32 := Scalar.extui v147
  let c0_i32_74 : BitVec 32 := 0#32
  let v149 : BitVec 1 := Scalar.cmpi .ne v148 c0_i32_74
  v149

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev33 : Nat :=
  let c0_i32_741 : BitVec 32 := 0#32
  let c0_i32_739 : BitVec 32 := 0#32
  let c1_i32_740 : BitVec 32 := 1#32
  let v939 : BitVec 32 := Scalar.muli c0_i32_739 c1_i32_740
  let v940 : BitVec 32 := Scalar.addi c0_i32_741 v939
  v940.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_79 : BitVec 32 := 1#32
  let v157 : BitVec 1 := Scalar.cmpi .ne v2 c1_i32_79
  let v158 : BitVec 32 := Scalar.extui v157
  let c0_i32_82 : BitVec 32 := 0#32
  let v159 : BitVec 1 := Scalar.cmpi .ne v158 c0_i32_82
  v159

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev34 : Nat :=
  let c0_i32_741 : BitVec 32 := 0#32
  let c1_i32_739 : BitVec 32 := 1#32
  let c1_i32_740 : BitVec 32 := 1#32
  let v939 : BitVec 32 := Scalar.muli c1_i32_739 c1_i32_740
  let v940 : BitVec 32 := Scalar.addi c0_i32_741 v939
  v940.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_87 : BitVec 32 := 2#32
  let v167 : BitVec 1 := Scalar.cmpi .ne v2 c2_i32_87
  let v168 : BitVec 32 := Scalar.extui v167
  let c0_i32_90 : BitVec 32 := 0#32
  let v169 : BitVec 1 := Scalar.cmpi .ne v168 c0_i32_90
  v169

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev35 : Nat :=
  let c0_i32_741 : BitVec 32 := 0#32
  let c2_i32_739 : BitVec 32 := 2#32
  let c1_i32_740 : BitVec 32 := 1#32
  let v939 : BitVec 32 := Scalar.muli c2_i32_739 c1_i32_740
  let v940 : BitVec 32 := Scalar.addi c0_i32_741 v939
  v940.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_95 : BitVec 32 := 3#32
  let v177 : BitVec 1 := Scalar.cmpi .ne v2 c3_i32_95
  let v178 : BitVec 32 := Scalar.extui v177
  let c0_i32_98 : BitVec 32 := 0#32
  let v179 : BitVec 1 := Scalar.cmpi .ne v178 c0_i32_98
  v179

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev36 : Nat :=
  let c0_i32_741 : BitVec 32 := 0#32
  let c3_i32_739 : BitVec 32 := 3#32
  let c1_i32_740 : BitVec 32 := 1#32
  let v939 : BitVec 32 := Scalar.muli c3_i32_739 c1_i32_740
  let v940 : BitVec 32 := Scalar.addi c0_i32_741 v939
  v940.toNat
def k0_mult6 : BitVec 32 :=
  let c256_i32_101 : BitVec 32 := 256#32
  c256_i32_101
def k0_mult7 : BitVec 32 :=
  let c1024_i32 : BitVec 32 := 1024#32
  c1024_i32
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_118 : BitVec 32 := 4#32
  let v207 : BitVec 1 := Scalar.cmpi .ne v2 c4_i32_118
  let v208 : BitVec 32 := Scalar.extui v207
  let c0_i32_121 : BitVec 32 := 0#32
  let v209 : BitVec 1 := Scalar.cmpi .ne v208 c0_i32_121
  v209

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev37 : Nat :=
  let c0_i32_741 : BitVec 32 := 0#32
  let c4_i32_739 : BitVec 32 := 4#32
  let c1_i32_740 : BitVec 32 := 1#32
  let v939 : BitVec 32 := Scalar.muli c4_i32_739 c1_i32_740
  let v940 : BitVec 32 := Scalar.addi c0_i32_741 v939
  v940.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_126 : BitVec 32 := 5#32
  let v217 : BitVec 1 := Scalar.cmpi .ne v2 c5_i32_126
  let v218 : BitVec 32 := Scalar.extui v217
  let c0_i32_129 : BitVec 32 := 0#32
  let v219 : BitVec 1 := Scalar.cmpi .ne v218 c0_i32_129
  v219

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev38 : Nat :=
  let c0_i32_741 : BitVec 32 := 0#32
  let c5_i32_739 : BitVec 32 := 5#32
  let c1_i32_740 : BitVec 32 := 1#32
  let v939 : BitVec 32 := Scalar.muli c5_i32_739 c1_i32_740
  let v940 : BitVec 32 := Scalar.addi c0_i32_741 v939
  v940.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_134 : BitVec 32 := 6#32
  let v227 : BitVec 1 := Scalar.cmpi .ne v2 c6_i32_134
  let v228 : BitVec 32 := Scalar.extui v227
  let c0_i32_137 : BitVec 32 := 0#32
  let v229 : BitVec 1 := Scalar.cmpi .ne v228 c0_i32_137
  v229

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev39 : Nat :=
  let c0_i32_741 : BitVec 32 := 0#32
  let c6_i32_739 : BitVec 32 := 6#32
  let c1_i32_740 : BitVec 32 := 1#32
  let v939 : BitVec 32 := Scalar.muli c6_i32_739 c1_i32_740
  let v940 : BitVec 32 := Scalar.addi c0_i32_741 v939
  v940.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_142 : BitVec 32 := 7#32
  let v237 : BitVec 1 := Scalar.cmpi .ne v2 c7_i32_142
  let v238 : BitVec 32 := Scalar.extui v237
  let c0_i32_145 : BitVec 32 := 0#32
  let v239 : BitVec 1 := Scalar.cmpi .ne v238 c0_i32_145
  v239

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev40 : Nat :=
  let c0_i32_741 : BitVec 32 := 0#32
  let c7_i32_739 : BitVec 32 := 7#32
  let c1_i32_740 : BitVec 32 := 1#32
  let v939 : BitVec 32 := Scalar.muli c7_i32_739 c1_i32_740
  let v940 : BitVec 32 := Scalar.addi c0_i32_741 v939
  v940.toNat
def k0_mult8 : BitVec 32 :=
  let c512_i32_148 : BitVec 32 := 512#32
  c512_i32_148
def k0_mult9 : BitVec 32 :=
  let c1280_i32 : BitVec 32 := 1280#32
  c1280_i32
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_165 : BitVec 32 := 8#32
  let v267 : BitVec 1 := Scalar.cmpi .ne v2 c8_i32_165
  let v268 : BitVec 32 := Scalar.extui v267
  let c0_i32_168 : BitVec 32 := 0#32
  let v269 : BitVec 1 := Scalar.cmpi .ne v268 c0_i32_168
  v269

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev41 : Nat :=
  let c0_i32_741 : BitVec 32 := 0#32
  let c8_i32_739 : BitVec 32 := 8#32
  let c1_i32_740 : BitVec 32 := 1#32
  let v939 : BitVec 32 := Scalar.muli c8_i32_739 c1_i32_740
  let v940 : BitVec 32 := Scalar.addi c0_i32_741 v939
  v940.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_173 : BitVec 32 := 9#32
  let v277 : BitVec 1 := Scalar.cmpi .ne v2 c9_i32_173
  let v278 : BitVec 32 := Scalar.extui v277
  let c0_i32_176 : BitVec 32 := 0#32
  let v279 : BitVec 1 := Scalar.cmpi .ne v278 c0_i32_176
  v279

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev42 : Nat :=
  let c0_i32_741 : BitVec 32 := 0#32
  let c9_i32_739 : BitVec 32 := 9#32
  let c1_i32_740 : BitVec 32 := 1#32
  let v939 : BitVec 32 := Scalar.muli c9_i32_739 c1_i32_740
  let v940 : BitVec 32 := Scalar.addi c0_i32_741 v939
  v940.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_181 : BitVec 32 := 10#32
  let v287 : BitVec 1 := Scalar.cmpi .ne v2 c10_i32_181
  let v288 : BitVec 32 := Scalar.extui v287
  let c0_i32_184 : BitVec 32 := 0#32
  let v289 : BitVec 1 := Scalar.cmpi .ne v288 c0_i32_184
  v289

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev43 : Nat :=
  let c0_i32_741 : BitVec 32 := 0#32
  let c10_i32_739 : BitVec 32 := 10#32
  let c1_i32_740 : BitVec 32 := 1#32
  let v939 : BitVec 32 := Scalar.muli c10_i32_739 c1_i32_740
  let v940 : BitVec 32 := Scalar.addi c0_i32_741 v939
  v940.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_189 : BitVec 32 := 11#32
  let v297 : BitVec 1 := Scalar.cmpi .ne v2 c11_i32_189
  let v298 : BitVec 32 := Scalar.extui v297
  let c0_i32_192 : BitVec 32 := 0#32
  let v299 : BitVec 1 := Scalar.cmpi .ne v298 c0_i32_192
  v299

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev44 : Nat :=
  let c0_i32_741 : BitVec 32 := 0#32
  let c11_i32_739 : BitVec 32 := 11#32
  let c1_i32_740 : BitVec 32 := 1#32
  let v939 : BitVec 32 := Scalar.muli c11_i32_739 c1_i32_740
  let v940 : BitVec 32 := Scalar.addi c0_i32_741 v939
  v940.toNat
def k0_mult10 : BitVec 32 :=
  let c768_i32_195 : BitVec 32 := 768#32
  c768_i32_195
def k0_mult11 : BitVec 32 :=
  let c1536_i32 : BitVec 32 := 1536#32
  c1536_i32
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_212 : BitVec 32 := 12#32
  let v327 : BitVec 1 := Scalar.cmpi .ne v2 c12_i32_212
  let v328 : BitVec 32 := Scalar.extui v327
  let c0_i32_215 : BitVec 32 := 0#32
  let v329 : BitVec 1 := Scalar.cmpi .ne v328 c0_i32_215
  v329

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev45 : Nat :=
  let c0_i32_741 : BitVec 32 := 0#32
  let c12_i32_739 : BitVec 32 := 12#32
  let c1_i32_740 : BitVec 32 := 1#32
  let v939 : BitVec 32 := Scalar.muli c12_i32_739 c1_i32_740
  let v940 : BitVec 32 := Scalar.addi c0_i32_741 v939
  v940.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_220 : BitVec 32 := 13#32
  let v337 : BitVec 1 := Scalar.cmpi .ne v2 c13_i32_220
  let v338 : BitVec 32 := Scalar.extui v337
  let c0_i32_223 : BitVec 32 := 0#32
  let v339 : BitVec 1 := Scalar.cmpi .ne v338 c0_i32_223
  v339

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev46 : Nat :=
  let c0_i32_741 : BitVec 32 := 0#32
  let c13_i32_739 : BitVec 32 := 13#32
  let c1_i32_740 : BitVec 32 := 1#32
  let v939 : BitVec 32 := Scalar.muli c13_i32_739 c1_i32_740
  let v940 : BitVec 32 := Scalar.addi c0_i32_741 v939
  v940.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_228 : BitVec 32 := 14#32
  let v347 : BitVec 1 := Scalar.cmpi .ne v2 c14_i32_228
  let v348 : BitVec 32 := Scalar.extui v347
  let c0_i32_231 : BitVec 32 := 0#32
  let v349 : BitVec 1 := Scalar.cmpi .ne v348 c0_i32_231
  v349

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev47 : Nat :=
  let c0_i32_741 : BitVec 32 := 0#32
  let c14_i32_739 : BitVec 32 := 14#32
  let c1_i32_740 : BitVec 32 := 1#32
  let v939 : BitVec 32 := Scalar.muli c14_i32_739 c1_i32_740
  let v940 : BitVec 32 := Scalar.addi c0_i32_741 v939
  v940.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_236 : BitVec 32 := 15#32
  let v357 : BitVec 1 := Scalar.cmpi .ne v2 c15_i32_236
  let v358 : BitVec 32 := Scalar.extui v357
  let c0_i32_239 : BitVec 32 := 0#32
  let v359 : BitVec 1 := Scalar.cmpi .ne v358 c0_i32_239
  v359

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev48 : Nat :=
  let c0_i32_741 : BitVec 32 := 0#32
  let c15_i32_739 : BitVec 32 := 15#32
  let c1_i32_740 : BitVec 32 := 1#32
  let v939 : BitVec 32 := Scalar.muli c15_i32_739 c1_i32_740
  let v940 : BitVec 32 := Scalar.addi c0_i32_741 v939
  v940.toNat
def k0_mult12 : BitVec 32 :=
  let c1024_i32_242 : BitVec 32 := 1024#32
  c1024_i32_242
def k0_mult13 : BitVec 32 :=
  let c1792_i32 : BitVec 32 := 1792#32
  c1792_i32
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_259 : BitVec 32 := 16#32
  let v387 : BitVec 1 := Scalar.cmpi .ne v2 c16_i32_259
  let v388 : BitVec 32 := Scalar.extui v387
  let c0_i32_262 : BitVec 32 := 0#32
  let v389 : BitVec 1 := Scalar.cmpi .ne v388 c0_i32_262
  v389

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev49 : Nat :=
  let c0_i32_741 : BitVec 32 := 0#32
  let c16_i32_739 : BitVec 32 := 16#32
  let c1_i32_740 : BitVec 32 := 1#32
  let v939 : BitVec 32 := Scalar.muli c16_i32_739 c1_i32_740
  let v940 : BitVec 32 := Scalar.addi c0_i32_741 v939
  v940.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_267 : BitVec 32 := 17#32
  let v397 : BitVec 1 := Scalar.cmpi .ne v2 c17_i32_267
  let v398 : BitVec 32 := Scalar.extui v397
  let c0_i32_270 : BitVec 32 := 0#32
  let v399 : BitVec 1 := Scalar.cmpi .ne v398 c0_i32_270
  v399

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev50 : Nat :=
  let c0_i32_741 : BitVec 32 := 0#32
  let c17_i32_739 : BitVec 32 := 17#32
  let c1_i32_740 : BitVec 32 := 1#32
  let v939 : BitVec 32 := Scalar.muli c17_i32_739 c1_i32_740
  let v940 : BitVec 32 := Scalar.addi c0_i32_741 v939
  v940.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_275 : BitVec 32 := 18#32
  let v407 : BitVec 1 := Scalar.cmpi .ne v2 c18_i32_275
  let v408 : BitVec 32 := Scalar.extui v407
  let c0_i32_278 : BitVec 32 := 0#32
  let v409 : BitVec 1 := Scalar.cmpi .ne v408 c0_i32_278
  v409

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev51 : Nat :=
  let c0_i32_741 : BitVec 32 := 0#32
  let c18_i32_739 : BitVec 32 := 18#32
  let c1_i32_740 : BitVec 32 := 1#32
  let v939 : BitVec 32 := Scalar.muli c18_i32_739 c1_i32_740
  let v940 : BitVec 32 := Scalar.addi c0_i32_741 v939
  v940.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_283 : BitVec 32 := 19#32
  let v417 : BitVec 1 := Scalar.cmpi .ne v2 c19_i32_283
  let v418 : BitVec 32 := Scalar.extui v417
  let c0_i32_286 : BitVec 32 := 0#32
  let v419 : BitVec 1 := Scalar.cmpi .ne v418 c0_i32_286
  v419

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev52 : Nat :=
  let c0_i32_741 : BitVec 32 := 0#32
  let c19_i32_739 : BitVec 32 := 19#32
  let c1_i32_740 : BitVec 32 := 1#32
  let v939 : BitVec 32 := Scalar.muli c19_i32_739 c1_i32_740
  let v940 : BitVec 32 := Scalar.addi c0_i32_741 v939
  v940.toNat
def k0_mult14 : BitVec 32 :=
  let c1280_i32_289 : BitVec 32 := 1280#32
  c1280_i32_289
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_301 : BitVec 32 := 20#32
  let v441 : BitVec 1 := Scalar.cmpi .ne v2 c20_i32_301
  let v442 : BitVec 32 := Scalar.extui v441
  let c0_i32_304 : BitVec 32 := 0#32
  let v443 : BitVec 1 := Scalar.cmpi .ne v442 c0_i32_304
  v443

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev53 : Nat :=
  let c0_i32_741 : BitVec 32 := 0#32
  let c20_i32_739 : BitVec 32 := 20#32
  let c1_i32_740 : BitVec 32 := 1#32
  let v939 : BitVec 32 := Scalar.muli c20_i32_739 c1_i32_740
  let v940 : BitVec 32 := Scalar.addi c0_i32_741 v939
  v940.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_309 : BitVec 32 := 21#32
  let v451 : BitVec 1 := Scalar.cmpi .ne v2 c21_i32_309
  let v452 : BitVec 32 := Scalar.extui v451
  let c0_i32_312 : BitVec 32 := 0#32
  let v453 : BitVec 1 := Scalar.cmpi .ne v452 c0_i32_312
  v453

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev54 : Nat :=
  let c0_i32_741 : BitVec 32 := 0#32
  let c21_i32_739 : BitVec 32 := 21#32
  let c1_i32_740 : BitVec 32 := 1#32
  let v939 : BitVec 32 := Scalar.muli c21_i32_739 c1_i32_740
  let v940 : BitVec 32 := Scalar.addi c0_i32_741 v939
  v940.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_317 : BitVec 32 := 22#32
  let v461 : BitVec 1 := Scalar.cmpi .ne v2 c22_i32_317
  let v462 : BitVec 32 := Scalar.extui v461
  let c0_i32_320 : BitVec 32 := 0#32
  let v463 : BitVec 1 := Scalar.cmpi .ne v462 c0_i32_320
  v463

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev55 : Nat :=
  let c0_i32_741 : BitVec 32 := 0#32
  let c22_i32_739 : BitVec 32 := 22#32
  let c1_i32_740 : BitVec 32 := 1#32
  let v939 : BitVec 32 := Scalar.muli c22_i32_739 c1_i32_740
  let v940 : BitVec 32 := Scalar.addi c0_i32_741 v939
  v940.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_325 : BitVec 32 := 23#32
  let v471 : BitVec 1 := Scalar.cmpi .ne v2 c23_i32_325
  let v472 : BitVec 32 := Scalar.extui v471
  let c0_i32_328 : BitVec 32 := 0#32
  let v473 : BitVec 1 := Scalar.cmpi .ne v472 c0_i32_328
  v473

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev56 : Nat :=
  let c0_i32_741 : BitVec 32 := 0#32
  let c23_i32_739 : BitVec 32 := 23#32
  let c1_i32_740 : BitVec 32 := 1#32
  let v939 : BitVec 32 := Scalar.muli c23_i32_739 c1_i32_740
  let v940 : BitVec 32 := Scalar.addi c0_i32_741 v939
  v940.toNat
def k0_mult15 : BitVec 32 :=
  let c1536_i32_331 : BitVec 32 := 1536#32
  c1536_i32_331
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_343 : BitVec 32 := 24#32
  let v495 : BitVec 1 := Scalar.cmpi .ne v2 c24_i32_343
  let v496 : BitVec 32 := Scalar.extui v495
  let c0_i32_346 : BitVec 32 := 0#32
  let v497 : BitVec 1 := Scalar.cmpi .ne v496 c0_i32_346
  v497

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev57 : Nat :=
  let c0_i32_741 : BitVec 32 := 0#32
  let c24_i32_739 : BitVec 32 := 24#32
  let c1_i32_740 : BitVec 32 := 1#32
  let v939 : BitVec 32 := Scalar.muli c24_i32_739 c1_i32_740
  let v940 : BitVec 32 := Scalar.addi c0_i32_741 v939
  v940.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_351 : BitVec 32 := 25#32
  let v505 : BitVec 1 := Scalar.cmpi .ne v2 c25_i32_351
  let v506 : BitVec 32 := Scalar.extui v505
  let c0_i32_354 : BitVec 32 := 0#32
  let v507 : BitVec 1 := Scalar.cmpi .ne v506 c0_i32_354
  v507

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev58 : Nat :=
  let c0_i32_741 : BitVec 32 := 0#32
  let c25_i32_739 : BitVec 32 := 25#32
  let c1_i32_740 : BitVec 32 := 1#32
  let v939 : BitVec 32 := Scalar.muli c25_i32_739 c1_i32_740
  let v940 : BitVec 32 := Scalar.addi c0_i32_741 v939
  v940.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_359 : BitVec 32 := 26#32
  let v515 : BitVec 1 := Scalar.cmpi .ne v2 c26_i32_359
  let v516 : BitVec 32 := Scalar.extui v515
  let c0_i32_362 : BitVec 32 := 0#32
  let v517 : BitVec 1 := Scalar.cmpi .ne v516 c0_i32_362
  v517

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev59 : Nat :=
  let c0_i32_741 : BitVec 32 := 0#32
  let c26_i32_739 : BitVec 32 := 26#32
  let c1_i32_740 : BitVec 32 := 1#32
  let v939 : BitVec 32 := Scalar.muli c26_i32_739 c1_i32_740
  let v940 : BitVec 32 := Scalar.addi c0_i32_741 v939
  v940.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_367 : BitVec 32 := 27#32
  let v525 : BitVec 1 := Scalar.cmpi .ne v2 c27_i32_367
  let v526 : BitVec 32 := Scalar.extui v525
  let c0_i32_370 : BitVec 32 := 0#32
  let v527 : BitVec 1 := Scalar.cmpi .ne v526 c0_i32_370
  v527

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev60 : Nat :=
  let c0_i32_741 : BitVec 32 := 0#32
  let c27_i32_739 : BitVec 32 := 27#32
  let c1_i32_740 : BitVec 32 := 1#32
  let v939 : BitVec 32 := Scalar.muli c27_i32_739 c1_i32_740
  let v940 : BitVec 32 := Scalar.addi c0_i32_741 v939
  v940.toNat
def k0_mult16 : BitVec 32 :=
  let c1792_i32_373 : BitVec 32 := 1792#32
  c1792_i32_373
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_385 : BitVec 32 := 28#32
  let v549 : BitVec 1 := Scalar.cmpi .ne v2 c28_i32_385
  let v550 : BitVec 32 := Scalar.extui v549
  let c0_i32_388 : BitVec 32 := 0#32
  let v551 : BitVec 1 := Scalar.cmpi .ne v550 c0_i32_388
  v551

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev61 : Nat :=
  let c0_i32_741 : BitVec 32 := 0#32
  let c28_i32_739 : BitVec 32 := 28#32
  let c1_i32_740 : BitVec 32 := 1#32
  let v939 : BitVec 32 := Scalar.muli c28_i32_739 c1_i32_740
  let v940 : BitVec 32 := Scalar.addi c0_i32_741 v939
  v940.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_393 : BitVec 32 := 29#32
  let v559 : BitVec 1 := Scalar.cmpi .ne v2 c29_i32_393
  let v560 : BitVec 32 := Scalar.extui v559
  let c0_i32_396 : BitVec 32 := 0#32
  let v561 : BitVec 1 := Scalar.cmpi .ne v560 c0_i32_396
  v561

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev62 : Nat :=
  let c0_i32_741 : BitVec 32 := 0#32
  let c29_i32_739 : BitVec 32 := 29#32
  let c1_i32_740 : BitVec 32 := 1#32
  let v939 : BitVec 32 := Scalar.muli c29_i32_739 c1_i32_740
  let v940 : BitVec 32 := Scalar.addi c0_i32_741 v939
  v940.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_401 : BitVec 32 := 30#32
  let v569 : BitVec 1 := Scalar.cmpi .ne v2 c30_i32_401
  let v570 : BitVec 32 := Scalar.extui v569
  let c0_i32_404 : BitVec 32 := 0#32
  let v571 : BitVec 1 := Scalar.cmpi .ne v570 c0_i32_404
  v571

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev63 : Nat :=
  let c0_i32_741 : BitVec 32 := 0#32
  let c30_i32_739 : BitVec 32 := 30#32
  let c1_i32_740 : BitVec 32 := 1#32
  let v939 : BitVec 32 := Scalar.muli c30_i32_739 c1_i32_740
  let v940 : BitVec 32 := Scalar.addi c0_i32_741 v939
  v940.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_409 : BitVec 32 := 31#32
  let v579 : BitVec 1 := Scalar.cmpi .ne v2 c31_i32_409
  let v580 : BitVec 32 := Scalar.extui v579
  let c0_i32_412 : BitVec 32 := 0#32
  let v581 : BitVec 1 := Scalar.cmpi .ne v580 c0_i32_412
  v581

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let c0_i32_743 : BitVec 32 := 0#32
  ![v2.toNat, 0, 0]
def k0_dev64 : Nat :=
  let c0_i32_741 : BitVec 32 := 0#32
  let c31_i32_739 : BitVec 32 := 31#32
  let c1_i32_740 : BitVec 32 := 1#32
  let v939 : BitVec 32 := Scalar.muli c31_i32_739 c1_i32_740
  let v940 : BitVec 32 := Scalar.addi c0_i32_741 v939
  v940.toNat
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_608 : BitVec 32 := 0#32
  let v841 : BitVec 1 := Scalar.cmpi .ne v2 c0_i32_608
  let v842 : BitVec 32 := Scalar.extui v841
  let c0_i32_611 : BitVec 32 := 0#32
  let v843 : BitVec 1 := Scalar.cmpi .ne v842 c0_i32_611
  v843

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_612 : BitVec 32 := 1#32
  let v844 : BitVec 1 := Scalar.cmpi .ne v2 c1_i32_612
  let v845 : BitVec 32 := Scalar.extui v844
  let c0_i32_615 : BitVec 32 := 0#32
  let v846 : BitVec 1 := Scalar.cmpi .ne v845 c0_i32_615
  v846

def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_616 : BitVec 32 := 2#32
  let v847 : BitVec 1 := Scalar.cmpi .ne v2 c2_i32_616
  let v848 : BitVec 32 := Scalar.extui v847
  let c0_i32_619 : BitVec 32 := 0#32
  let v849 : BitVec 1 := Scalar.cmpi .ne v848 c0_i32_619
  v849

def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_620 : BitVec 32 := 3#32
  let v850 : BitVec 1 := Scalar.cmpi .ne v2 c3_i32_620
  let v851 : BitVec 32 := Scalar.extui v850
  let c0_i32_623 : BitVec 32 := 0#32
  let v852 : BitVec 1 := Scalar.cmpi .ne v851 c0_i32_623
  v852

def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_624 : BitVec 32 := 4#32
  let v853 : BitVec 1 := Scalar.cmpi .ne v2 c4_i32_624
  let v854 : BitVec 32 := Scalar.extui v853
  let c0_i32_627 : BitVec 32 := 0#32
  let v855 : BitVec 1 := Scalar.cmpi .ne v854 c0_i32_627
  v855

def k0_off101 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_628 : BitVec 32 := 5#32
  let v856 : BitVec 1 := Scalar.cmpi .ne v2 c5_i32_628
  let v857 : BitVec 32 := Scalar.extui v856
  let c0_i32_631 : BitVec 32 := 0#32
  let v858 : BitVec 1 := Scalar.cmpi .ne v857 c0_i32_631
  v858

def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_632 : BitVec 32 := 6#32
  let v859 : BitVec 1 := Scalar.cmpi .ne v2 c6_i32_632
  let v860 : BitVec 32 := Scalar.extui v859
  let c0_i32_635 : BitVec 32 := 0#32
  let v861 : BitVec 1 := Scalar.cmpi .ne v860 c0_i32_635
  v861

def k0_off103 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_636 : BitVec 32 := 7#32
  let v862 : BitVec 1 := Scalar.cmpi .ne v2 c7_i32_636
  let v863 : BitVec 32 := Scalar.extui v862
  let c0_i32_639 : BitVec 32 := 0#32
  let v864 : BitVec 1 := Scalar.cmpi .ne v863 c0_i32_639
  v864

def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_640 : BitVec 32 := 8#32
  let v865 : BitVec 1 := Scalar.cmpi .ne v2 c8_i32_640
  let v866 : BitVec 32 := Scalar.extui v865
  let c0_i32_643 : BitVec 32 := 0#32
  let v867 : BitVec 1 := Scalar.cmpi .ne v866 c0_i32_643
  v867

def k0_off105 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_644 : BitVec 32 := 9#32
  let v868 : BitVec 1 := Scalar.cmpi .ne v2 c9_i32_644
  let v869 : BitVec 32 := Scalar.extui v868
  let c0_i32_647 : BitVec 32 := 0#32
  let v870 : BitVec 1 := Scalar.cmpi .ne v869 c0_i32_647
  v870

def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_648 : BitVec 32 := 10#32
  let v871 : BitVec 1 := Scalar.cmpi .ne v2 c10_i32_648
  let v872 : BitVec 32 := Scalar.extui v871
  let c0_i32_651 : BitVec 32 := 0#32
  let v873 : BitVec 1 := Scalar.cmpi .ne v872 c0_i32_651
  v873

def k0_off107 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_652 : BitVec 32 := 11#32
  let v874 : BitVec 1 := Scalar.cmpi .ne v2 c11_i32_652
  let v875 : BitVec 32 := Scalar.extui v874
  let c0_i32_655 : BitVec 32 := 0#32
  let v876 : BitVec 1 := Scalar.cmpi .ne v875 c0_i32_655
  v876

def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_656 : BitVec 32 := 12#32
  let v877 : BitVec 1 := Scalar.cmpi .ne v2 c12_i32_656
  let v878 : BitVec 32 := Scalar.extui v877
  let c0_i32_659 : BitVec 32 := 0#32
  let v879 : BitVec 1 := Scalar.cmpi .ne v878 c0_i32_659
  v879

def k0_off109 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_660 : BitVec 32 := 13#32
  let v880 : BitVec 1 := Scalar.cmpi .ne v2 c13_i32_660
  let v881 : BitVec 32 := Scalar.extui v880
  let c0_i32_663 : BitVec 32 := 0#32
  let v882 : BitVec 1 := Scalar.cmpi .ne v881 c0_i32_663
  v882

def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_664 : BitVec 32 := 14#32
  let v883 : BitVec 1 := Scalar.cmpi .ne v2 c14_i32_664
  let v884 : BitVec 32 := Scalar.extui v883
  let c0_i32_667 : BitVec 32 := 0#32
  let v885 : BitVec 1 := Scalar.cmpi .ne v884 c0_i32_667
  v885

def k0_off111 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_668 : BitVec 32 := 15#32
  let v886 : BitVec 1 := Scalar.cmpi .ne v2 c15_i32_668
  let v887 : BitVec 32 := Scalar.extui v886
  let c0_i32_671 : BitVec 32 := 0#32
  let v888 : BitVec 1 := Scalar.cmpi .ne v887 c0_i32_671
  v888

def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_672 : BitVec 32 := 16#32
  let v889 : BitVec 1 := Scalar.cmpi .ne v2 c16_i32_672
  let v890 : BitVec 32 := Scalar.extui v889
  let c0_i32_675 : BitVec 32 := 0#32
  let v891 : BitVec 1 := Scalar.cmpi .ne v890 c0_i32_675
  v891

def k0_off113 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_676 : BitVec 32 := 17#32
  let v892 : BitVec 1 := Scalar.cmpi .ne v2 c17_i32_676
  let v893 : BitVec 32 := Scalar.extui v892
  let c0_i32_679 : BitVec 32 := 0#32
  let v894 : BitVec 1 := Scalar.cmpi .ne v893 c0_i32_679
  v894

def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_680 : BitVec 32 := 18#32
  let v895 : BitVec 1 := Scalar.cmpi .ne v2 c18_i32_680
  let v896 : BitVec 32 := Scalar.extui v895
  let c0_i32_683 : BitVec 32 := 0#32
  let v897 : BitVec 1 := Scalar.cmpi .ne v896 c0_i32_683
  v897

def k0_off115 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_684 : BitVec 32 := 19#32
  let v898 : BitVec 1 := Scalar.cmpi .ne v2 c19_i32_684
  let v899 : BitVec 32 := Scalar.extui v898
  let c0_i32_687 : BitVec 32 := 0#32
  let v900 : BitVec 1 := Scalar.cmpi .ne v899 c0_i32_687
  v900

def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_688 : BitVec 32 := 20#32
  let v901 : BitVec 1 := Scalar.cmpi .ne v2 c20_i32_688
  let v902 : BitVec 32 := Scalar.extui v901
  let c0_i32_691 : BitVec 32 := 0#32
  let v903 : BitVec 1 := Scalar.cmpi .ne v902 c0_i32_691
  v903

def k0_off117 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_692 : BitVec 32 := 21#32
  let v904 : BitVec 1 := Scalar.cmpi .ne v2 c21_i32_692
  let v905 : BitVec 32 := Scalar.extui v904
  let c0_i32_695 : BitVec 32 := 0#32
  let v906 : BitVec 1 := Scalar.cmpi .ne v905 c0_i32_695
  v906

def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_696 : BitVec 32 := 22#32
  let v907 : BitVec 1 := Scalar.cmpi .ne v2 c22_i32_696
  let v908 : BitVec 32 := Scalar.extui v907
  let c0_i32_699 : BitVec 32 := 0#32
  let v909 : BitVec 1 := Scalar.cmpi .ne v908 c0_i32_699
  v909

def k0_off119 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_700 : BitVec 32 := 23#32
  let v910 : BitVec 1 := Scalar.cmpi .ne v2 c23_i32_700
  let v911 : BitVec 32 := Scalar.extui v910
  let c0_i32_703 : BitVec 32 := 0#32
  let v912 : BitVec 1 := Scalar.cmpi .ne v911 c0_i32_703
  v912

def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_704 : BitVec 32 := 24#32
  let v913 : BitVec 1 := Scalar.cmpi .ne v2 c24_i32_704
  let v914 : BitVec 32 := Scalar.extui v913
  let c0_i32_707 : BitVec 32 := 0#32
  let v915 : BitVec 1 := Scalar.cmpi .ne v914 c0_i32_707
  v915

def k0_off121 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_708 : BitVec 32 := 25#32
  let v916 : BitVec 1 := Scalar.cmpi .ne v2 c25_i32_708
  let v917 : BitVec 32 := Scalar.extui v916
  let c0_i32_711 : BitVec 32 := 0#32
  let v918 : BitVec 1 := Scalar.cmpi .ne v917 c0_i32_711
  v918

def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_712 : BitVec 32 := 26#32
  let v919 : BitVec 1 := Scalar.cmpi .ne v2 c26_i32_712
  let v920 : BitVec 32 := Scalar.extui v919
  let c0_i32_715 : BitVec 32 := 0#32
  let v921 : BitVec 1 := Scalar.cmpi .ne v920 c0_i32_715
  v921

def k0_off123 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_716 : BitVec 32 := 27#32
  let v922 : BitVec 1 := Scalar.cmpi .ne v2 c27_i32_716
  let v923 : BitVec 32 := Scalar.extui v922
  let c0_i32_719 : BitVec 32 := 0#32
  let v924 : BitVec 1 := Scalar.cmpi .ne v923 c0_i32_719
  v924

def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_720 : BitVec 32 := 28#32
  let v925 : BitVec 1 := Scalar.cmpi .ne v2 c28_i32_720
  let v926 : BitVec 32 := Scalar.extui v925
  let c0_i32_723 : BitVec 32 := 0#32
  let v927 : BitVec 1 := Scalar.cmpi .ne v926 c0_i32_723
  v927

def k0_off125 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_724 : BitVec 32 := 29#32
  let v928 : BitVec 1 := Scalar.cmpi .ne v2 c29_i32_724
  let v929 : BitVec 32 := Scalar.extui v928
  let c0_i32_727 : BitVec 32 := 0#32
  let v930 : BitVec 1 := Scalar.cmpi .ne v929 c0_i32_727
  v930

def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_728 : BitVec 32 := 30#32
  let v931 : BitVec 1 := Scalar.cmpi .ne v2 c30_i32_728
  let v932 : BitVec 32 := Scalar.extui v931
  let c0_i32_731 : BitVec 32 := 0#32
  let v933 : BitVec 1 := Scalar.cmpi .ne v932 c0_i32_731
  v933

def k0_off127 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_732 : BitVec 32 := 31#32
  let v934 : BitVec 1 := Scalar.cmpi .ne v2 c31_i32_732
  let v935 : BitVec 32 := Scalar.extui v934
  let c0_i32_735 : BitVec 32 := 0#32
  let v936 : BitVec 1 := Scalar.cmpi .ne v935 c0_i32_735
  v936

def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_740 : BitVec 32 := 0#32
  let c0_i32_741 : BitVec 32 := 0#32
  ![v2.toNat, 0, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Common.lean ====
/-
# The kernel's resources: memrefs, cells, contents and the schedule of its transfers

Device `c` multiplies its rows of `x` into the weight matrix, eight column chunks at a time, applies the scales and the
activation, rounds, and keeps the result as 32 blocks; block `j` goes to device `j`. Device `j` grants device `c` one
credit (its landing slot for `c`'s block) on `c`'s credit semaphore `j`; `c` waits for it, copies block `j` into slot `c`
of device `j`, which counts on `j`'s receive semaphore `c` and on `c`'s send semaphore `j`.

This module names those cells and slots, the contents every block holds, and the schedule (`Rd`): each cell has at most
the one round 0 with one payment.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The resource algebra: the pipeline library's rounds, the kernel's rounds, the local transfers' counters -/

abbrev UK : Type := URounds (GSem nD τ sig) Unit
abbrev UB : Type := UK × Counters
abbrev UU : Type := UR sig nD τ × UB

local notation "𝕄" => MT nD τ sig Unit (Elt F) ℕ UU ℕ

abbrev EP : Emb (UR sig nD τ) (MT nD τ sig Unit (Elt F) ℕ UU ℕ) := embL
abbrev EB : Emb UB (MT nD τ sig Unit (Elt F) ℕ UU ℕ) := embR
abbrev ER : Emb UK (MT nD τ sig Unit (Elt F) ℕ UU ℕ) := (Emb.inl : Emb UK UB).trans EB
abbrev EC : UEmb Counters (MT nD τ sig Unit (Elt F) ℕ UU ℕ) := countersEmb

instance ER_landsIn : (ER : Emb UK 𝕄).LandsIn (upEmb : UEmb _ 𝕄) := by unfold ER EB embR; infer_instance

abbrev 𝒱₀ : Variants := Variants.none

variable (m : (ℓ : Loc nD τ sig) → Buf (Elt F) ℓ)

/-! ## The memrefs -/

abbrev xM : Memref sig .tc .vmem S128x4096 .f32 := Memref.whole cc0_stg0_0
abbrev aM : Memref sig .tc .smem S1 .f32 := Memref.whole cc0_stg1_0
abbrev bM : Memref sig .tc .smem S1 .f32 := Memref.whole cc0_stg2_0
abbrev oM : Memref sig .tc .vmem S4096x64 .f32 := Memref.whole cc0_stg3_0
abbrev hM : Memref sig .tc .hbm S4096x2048 .f32 := Memref.whole main_arg1
abbrev wM : Memref sig .tc .vmem S4x4096x256 .f32 := Memref.whole cc0_scratch0
abbrev cM : Memref sig .tc .vmem S32x64x128 .bf16 := Memref.whole cc0_scratch1
abbrev rM : Memref sig .tc .vmem S32x64x128 .bf16 := Memref.whole cc0_scratch2

theorem inb3 (j : ℕ) (hj : j < 32) : ∀ a, (![j, 0, 0] : Fin 3 → ℕ) a + S1x64x128.size a ≤ S32x64x128.size a := by
  intro a; fin_cases a
  · exact hj
  · exact Nat.le_refl 64
  · exact Nat.le_refl 128
theorem inbW (s : ℕ) (hs : s < 4) : ∀ a, (![s, 0, 0] : Fin 3 → ℕ) a + S1x4096x256.size a ≤ S4x4096x256.size a := by
  intro a; fin_cases a
  · exact hs
  · exact Nat.le_refl 4096
  · exact Nat.le_refl 256
theorem inbH (k : ℕ) (hk : k < 8) : ∀ a, (![0, 256 * k] : Fin 2 → ℕ) a + S4096x256.size a ≤ S4096x2048.size a := by
  intro a; fin_cases a
  · exact Nat.le_refl 4096
  · show 256 * k + 256 ≤ 2048; omega
theorem inbS (j : ℕ) (hj : j < 32) : ∀ a, (![j] : Fin 1 → ℕ) a + S1.size a ≤ S32.size a := by
  intro a; fin_cases a; exact hj
theorem inbD (s : ℕ) (hs : s < 4) : ∀ a, (![s] : Fin 1 → ℕ) a + S1.size a ≤ S4.size a := by
  intro a; fin_cases a; exact hs
theorem inbO (u : ℕ) (hu : u < 32) : ∀ a, (![128 * u, 0] : Fin 2 → ℕ) a + S128x64.size a ≤ S4096x64.size a := by
  intro a; fin_cases a
  · show 128 * u + 128 ≤ 4096; omega
  · exact Nat.le_refl 64
theorem slicesB (u : Fin 4) : S256x128.Slices ![64 * u.val, 0] S64x128 := by revert u; decide

/-- The block slots' rectangle `j`, the weight buffer's `s`, the output's row block `u`. -/
abbrev rect3 (j : Fin 32) : Rect S32x64x128 := Rect.unit (s := S32x64x128) ![j.val, 0, 0] S1x64x128.size (inb3 j.val j.isLt)
abbrev rectW (s : Fin 4) : Rect S4x4096x256 := Rect.unit (s := S4x4096x256) ![s.val, 0, 0] S1x4096x256.size (inbW s.val s.isLt)
abbrev rectO (u : Fin 32) : Rect S4096x64 := Rect.unit (s := S4096x64) ![128 * u.val, 0] S128x64.size (inbO u.val u.isLt)

/-- Slot `j` of the outgoing blocks, of the landing buffer, of the weight buffer; column chunk `k` of the weights. -/
abbrev cS (j : Fin 32) : Memref sig .tc .vmem S64x128 .bf16 := (cM.slice (rect3 j) (fun _ => rfl)).squeeze S64x128 squeezes_S1x64x128_S64x128
abbrev rS (j : Fin 32) : Memref sig .tc .vmem S64x128 .bf16 := (rM.slice (rect3 j) (fun _ => rfl)).squeeze S64x128 squeezes_S1x64x128_S64x128
abbrev wS (s : Fin 4) : Memref sig .tc .vmem S4096x256 .f32 := (wM.slice (rectW s) (fun _ => rfl)).squeeze S4096x256 squeezes_S1x4096x256_S4096x256
abbrev hS (k : Fin 8) : Memref sig .tc .hbm S4096x256 .f32 :=
  hM.slice (Rect.unit (s := S4096x2048) ![0, 256 * k.val] S4096x256.size (inbH k.val k.isLt)) (fun _ => rfl)

/-! ## The semaphores and cells -/

abbrev barS : Sem sig := (SemArray.scalar (sig.barrier 0 rfl) : Sems sig S_).sem
abbrev credS (j : Fin 32) : Sem sig := ((cc0_scratch6.slice (Rect.unit (s := S32) ![j.val] S1.size (inbS j.val j.isLt))).squeeze S_ squeezes_S1_S_).sem
abbrev sendS (j : Fin 32) : DmaSem sig := ((cc0_scratch4.slice (Rect.unit (s := S32) ![j.val] S1.size (inbS j.val j.isLt))).squeeze S_ squeezes_S1_S_).sem
abbrev recvS (j : Fin 32) : DmaSem sig := ((cc0_scratch5.slice (Rect.unit (s := S32) ![j.val] S1.size (inbS j.val j.isLt))).squeeze S_ squeezes_S1_S_).sem
abbrev wdmaS (s : Fin 4) : DmaSem sig := ((cc0_scratch3.slice (Rect.unit (s := S4) ![s.val] S1.size (inbD s.val s.isLt))).squeeze S_ squeezes_S1_S_).sem

/-- The cells of the exchange: kind 0 the credits, 1 the sends, 2 the receipts. -/
def csem : Fin 3 × Fin 32 → SemLoc sig := fun p => match p.1 with
  | 0 => .reg (credS p.2) | 1 => .dma (sendS p.2) | 2 => .dma (recvS p.2)

theorem csem_inj : Function.Injective csem := by
  have h : ∀ a b, csem a = csem b → a = b := by decide +kernel
  exact fun a b => h a b

abbrev cell (k : Fin 3) (c : Dev nD) (i : Fin 32) : GSem nD τ sig := ((c : Thread nD τ), csem (k, i))

/-- Which cell of the exchange a semaphore is, if any. -/
def dec (sm : SemLoc sig) : Option (Fin 3 × Fin 32) := Function.partialInv csem sm
theorem dec_csem (p : Fin 3 × Fin 32) : dec (csem p) = some p := Function.partialInv_left csem_inj p
theorem dec_none {sm : SemLoc sig} (h : ∀ p, csem p ≠ sm) : dec sm = none := by
  unfold dec Function.partialInv; rw [dif_neg]; rintro ⟨p, hp⟩; exact h p hp
theorem csem_ne_bar : ∀ p, csem p ≠ .reg barS := by decide +kernel
theorem csem_ne_wdma : ∀ s p, csem p ≠ .dma (wdmaS s) := by decide +kernel

abbrev N : ℕ := (cS 0).view.dmaCredit
theorem N_pos : 0 < N := View.dmaCredit_pos _ (by decide)

/-! ## Contents -/

/-- Device `c`'s rows of `x` and its two scales, as staged. -/
def xstg (c : Dev nD) : (cc0_stg0_0 : Ref sig .tc).ty.Contents (Elt F) := (win0_0.blk (0 : Fin 1)).view.read (Elt F) (m ((c : Thread nD τ).loc main_arg0))
def astg (c : Dev nD) : (cc0_stg1_0 : Ref sig .tc).ty.Contents (Elt F) := (win0_1.blk (0 : Fin 1)).view.read (Elt F) (m ((c : Thread nD τ).loc main_arg2))
def bstg (c : Dev nD) : (cc0_stg2_0 : Ref sig .tc).ty.Contents (Elt F) := (win0_2.blk (0 : Fin 1)).view.read (Elt F) (m ((c : Thread nD τ).loc main_arg3))

abbrev rect1 : Rect S1 := Rect.unit (s := S1) ![0] S1.size inb_S1_S1_0
abbrev rectX : Rect S128x4096 := Rect.unit (s := S128x4096) ![0, 0] S128x4096.size inb_S128x4096_S128x4096_0_0
/-- What the loads read of them. -/
def aval (c : Dev nD) : Elt F .f32 := (aM.access rect1).read (Elt F) (astg m c) (Shape.Idx.first (Nat.lt_of_lt_of_eq Nat.zero_lt_one numel1_S1.symm))
def bval (c : Dev nD) : Elt F .f32 := (bM.access rect1).read (Elt F) (bstg m c) (Shape.Idx.first (Nat.lt_of_lt_of_eq Nat.zero_lt_one numel1_S1.symm))
def xval (c : Dev nD) : Vec F S128x4096 .f32 := xM.view.readAt (Elt F) rectX.toLoadRect (xstg m c)

/-- Column chunk `k` of device `c`'s weights, and the same as a slot of the weight buffer. -/
def wcol (c : Dev nD) (k : Fin 8) : S4096x256.Idx → Elt F .f32 := (hS k).view.read (Elt F) (m ((c : Thread nD τ).loc main_arg1))
theorem castW : S4096x256.ShapeCasts S1x4096x256 := by decide
def wwide (c : Dev nD) (k : Fin 8) : Vec F S1x4096x256 .f32 := shapeCast S1x4096x256 (wcol m c k) castW

/-- The activated chunk `k` (transposed), rounded; and block `j` cut from it. -/
def chunk (c : Dev nD) (k : Fin 8) : FVec F S256x128 .bf16 := k0_pay3 (aval m c) (bval m c) (xval m c) (wwide m c k)
def cut (c : Dev nD) (j : Fin 32) : FVec F S64x128 .bf16 :=
  extractStridedSlice S64x128 ![64 * (j.val % 4), 0] (chunk m c ⟨j.val / 4, by omega⟩) (slicesB ⟨j.val % 4, Nat.mod_lt _ (by decide)⟩)
def blkw (c : Dev nD) (j : Fin 32) : FVec F S1x64x128 .bf16 := shapeCast S1x64x128 (cut m c j) shapeCasts_S64x128_S1x64x128
/-- The block as a slot's contents. -/
def blk (c : Dev nD) (j : Fin 32) : S64x128.Idx → Elt F .bf16 := shapeCast S64x128 (blkw m c j) shapeCasts_S1x64x128_S64x128
/-- Row block `u` of device `c`'s result: device `u`'s block for `c`. -/
def outw (c : Dev nD) (u : Fin 32) : FVec F S128x64 .f32 := k0_pay84 (blkw m u c)
/-- The output buffer after the first `o` row blocks are stored over `f`. -/
def outF (c : Dev nD) (f : (cc0_stg3_0 : Ref sig .tc).ty.Contents (Elt F)) : ℕ → (cc0_stg3_0 : Ref sig .tc).ty.Contents (Elt F)
  | 0 => f
  | o + 1 => if h : o < 32 then (oM.access (rectO ⟨o, h⟩)).write (Elt F) (outF c f o) (outw m c ⟨o, h⟩) Finset.univ else outF c f o

/-! ## The schedule -/

/-- Slot `i` of device `p`'s landing buffer, at anything. -/
def rAny (p : Dev nD) (i : Fin 32) : sProp 𝕄 := iprop(∃ f, (rS i).view.loc (p : Thread nD τ) ↦[(rS i).view.set]{fullShare} f)
def cAny (p : Dev nD) (i : Fin 32) : sProp 𝕄 := iprop(∃ f, (cS i).view.loc (p : Thread nD τ) ↦[(cS i).view.set]{fullShare} f)
def cOwn (c : Dev nD) (j : Fin 32) : sProp 𝕄 := owns (c : Thread nD τ) (cS j) fullShare (blk m c j)
def rOwn (c : Dev nD) (u : Fin 32) : sProp 𝕄 := owns (c : Thread nD τ) (rS u) fullShare (blk m u c)

instance rAny_storable (p : Dev nD) (i : Fin 32) : BI.Storable (upEmb : UEmb _ 𝕄) (rAny (F := F) p i) := by unfold rAny; infer_instance
instance cOwn_storable (p : Dev nD) (i : Fin 32) : BI.Storable (upEmb : UEmb _ 𝕄) (cOwn (F := F) m p i) := by unfold cOwn; infer_instance
instance rOwn_storable (p : Dev nD) (i : Fin 32) : BI.Storable (upEmb : UEmb _ 𝕄) (rOwn (F := F) m p i) := by unfold rOwn; infer_instance

/-- What a payment on cell `(k, i)` of device `c` hands over: device `i`'s landing slot for `c` and that its receive cell
    is at round 0; the outgoing block back; the landed block. -/
def pay (c : Dev nD) : Fin 3 × Fin 32 → sProp 𝕄
  | (0, i) => iprop(rAny i c ∗ reached ER (cell 2 i c) 0)
  | (1, i) => cOwn m c i
  | (2, i) => rOwn m c i

instance pay_storable (c : Dev nD) (p : Fin 3 × Fin 32) : BI.Storable (upEmb : UEmb _ 𝕄) (pay (F := F) m c p) := by
  obtain ⟨k, i⟩ := p
  fin_cases k
  · show BI.Storable upEmb iprop(rAny i c ∗ reached ER (cell 2 i c) 0); infer_instance
  · show BI.Storable upEmb (cOwn m c i); infer_instance
  · show BI.Storable upEmb (rOwn m c i); infer_instance

def amt (p : Fin 3 × Fin 32) : ℕ := if p.1 = 0 then 1 else N
theorem amt_pos (p : Fin 3 × Fin 32) : 0 < amt p := by unfold amt; split; exacts [Nat.one_pos, N_pos]

/-- A cell with a payment: a cell of the exchange at a TensorCore, its index another device's. -/
abbrev Live (g : GSem nD τ sig) : Prop := g.1.2 = .tc ∧ ∃ p, dec g.2 = some p ∧ p.2 ≠ g.1.1

open Classical in
/-- One round, one payment per live cell. -/
def Rd : Rounds.Schedule (GSem nD τ sig) Unit 𝕄 where
  duties g r := if r = 0 ∧ Live g then {()} else ∅
  unitless _ := False
  amount g _ _ := match dec g.2 with | some p => amt p | none => 1
  payload g _ _ := match dec g.2 with | some p => pay m g.1.1 p | none => iprop(emp)
  amount_pos g _ _ _ := by split; exacts [amt_pos _, Nat.one_pos]

instance Rd_payload_storable (g : GSem nD τ sig) (r : ℕ) (d : Unit) :
    BI.Storable (upEmb : UEmb _ 𝕄) ((Rd (F := F) m).payload g r d) := by
  show BI.Storable upEmb (match dec g.2 with | some p => pay m g.1.1 p | none => iprop(emp))
  split <;> infer_instance

section Sched
variable (k : Fin 3) (c : Dev nD) (i : Fin 32)

theorem duties_later (g : GSem nD τ sig) : ∀ r, 1 ≤ r → (Rd (F := F) m).duties g r = ∅ :=
  fun r hr => by dsimp only [Rd]; rw [if_neg fun h => by omega]
theorem duties_live (h : i ≠ c) : (Rd (F := F) m).duties (cell k c i) 0 = {()} := by
  dsimp only [Rd]; exact if_pos ⟨rfl, rfl, _, dec_csem _, h⟩
theorem duties_self (r : ℕ) : (Rd (F := F) m).duties (cell k c c) r = ∅ := by
  dsimp only [Rd]; refine if_neg ?_
  rintro ⟨-, -, p, hp, hne⟩
  rw [dec_csem] at hp; exact hne (by rw [← Option.some.inj hp])
theorem amount_eq (d : Unit) : (Rd (F := F) m).amount (cell k c i) 0 d = amt (k, i) := by dsimp only [Rd]; rw [dec_csem]
theorem payload_eq (d : Unit) : (Rd (F := F) m).payload (cell k c i) 0 d = pay m c (k, i) := by dsimp only [Rd]; rw [dec_csem]
theorem expect_eq (h : i ≠ c) : (Rd (F := F) m).expect (cell k c i) 0 = amt (k, i) := by
  unfold Schedule.expect Schedule.amountOf; rw [duties_live m k c i h, Finset.sum_singleton, amount_eq]
theorem rest_eq (h : i ≠ c) :
    bigSep ((Rd (F := F) m).duties (cell k c i) 0 \ ∅) (fun d => (Rd (F := F) m).payload (cell k c i) 0 d) = pay m c (k, i) := by
  rw [Finset.sdiff_empty, duties_live m k c i h, bigSep_singleton, payload_eq]
end Sched

/-! ## What a device owes, and the levels -/

/-- Device `c` after granting the first `cr` credits and starting the first `js` sends: still owed, a unit to every later
    device's credit cell `c` and a block's credit to every later device's receive cell `c`. -/
def Osum (c : Dev nD) (k : Fin 3) (n a : ℕ) : CellTallies nD τ sig Unit :=
  ∑ i ∈ (Finset.univ : Finset (Fin 32)).filter (fun i => n ≤ i.val ∧ i ≠ c), tallyAt (cell k i c) () a
def O (c : Dev nD) (cr js : ℕ) : CellTallies nD τ sig Unit := Osum c 0 cr 1 + Osum c 2 js N

theorem Osum_step (c : Dev nD) (k : Fin 3) (n a : ℕ) (hn : n < 32) (h : (⟨n, hn⟩ : Fin 32) ≠ c) :
    Osum c k n a = Osum c k (n + 1) a + tallyAt (cell k ⟨n, hn⟩ c) () a := by
  unfold Osum
  have e : (Finset.univ : Finset (Fin 32)).filter (fun i => n ≤ i.val ∧ i ≠ c)
      = insert (⟨n, hn⟩ : Fin 32) ((Finset.univ : Finset (Fin 32)).filter (fun i => n + 1 ≤ i.val ∧ i ≠ c)) := by
    ext i
    simp only [Finset.mem_filter, Finset.mem_univ, true_and, Finset.mem_insert]
    constructor
    · rintro ⟨h1, h2⟩
      rcases Nat.eq_or_lt_of_le h1 with h3 | h3
      · exact .inl (Fin.ext h3.symm)
      · exact .inr ⟨h3, h2⟩
    · rintro (h1 | ⟨h1, h2⟩)
      · subst h1; exact ⟨Nat.le_refl _, h⟩
      · exact ⟨by omega, h2⟩
  rw [e, Finset.sum_insert (by simp), add_comm]

theorem Osum_self (c : Dev nD) (k : Fin 3) (n a : ℕ) (hn : n < 32) (h : (⟨n, hn⟩ : Fin 32) = c) : Osum c k n a = Osum c k (n + 1) a := by
  unfold Osum
  refine Finset.sum_congr (Finset.filter_congr fun i _ => ?_) fun _ _ => rfl
  constructor
  · rintro ⟨h1, h2⟩
    refine ⟨?_, h2⟩
    rcases Nat.eq_or_lt_of_le h1 with h3 | h3
    · exact absurd ((Fin.ext h3.symm : i = ⟨n, hn⟩).trans h) h2
    · exact h3
  · rintro ⟨h1, h2⟩; exact ⟨by omega, h2⟩

theorem Osum_end (c : Dev nD) (k : Fin 3) (a : ℕ) : Osum c k 32 a = 0 := by
  unfold Osum
  rw [Finset.filter_false_of_mem, Finset.sum_empty]
  rintro i - ⟨h, -⟩; exact absurd i.isLt (Nat.not_lt.mpr h)

theorem Osum_pos {c : Dev nD} {k : Fin 3} {n a : ℕ} {g : GSem nD τ sig} {u : Unit} (h : 0 < Osum c k n a g u) : ∃ i, g = cell k i c := by
  by_contra hn
  have : Osum c k n a g u = 0 := by
    unfold Osum
    rw [Finset.sum_apply, Finsupp.finset_sum_apply]
    refine Finset.sum_eq_zero fun i _ => ?_
    rw [tallyAt_apply, if_neg]
    rintro ⟨h', -⟩; exact hn ⟨i, h'⟩
  omega

theorem O_pos {c : Dev nD} {cr js : ℕ} {g : GSem nD τ sig} {u : Unit} (h : 0 < O c cr js g u) :
    (cr < 32 ∧ ∃ i, g = cell 0 i c) ∨ ∃ i, g = cell 2 i c := by
  unfold O at h
  rw [Pi.add_apply, Finsupp.add_apply] at h
  by_cases h0 : 0 < Osum c 0 cr 1 g u
  · refine .inl ⟨?_, Osum_pos h0⟩
    by_contra hc
    have e : Osum c 0 cr 1 = 0 := by
      unfold Osum
      rw [Finset.filter_false_of_mem, Finset.sum_empty]
      rintro i - ⟨h, -⟩; exact absurd (Nat.lt_of_le_of_lt h i.isLt) hc
    rw [e] at h0; exact Nat.lt_irrefl 0 h0
  · exact .inr (Osum_pos (n := js) (a := N) (u := u) (by omega))

theorem O_end (c : Dev nD) : O c 32 32 = 0 := by unfold O; rw [Osum_end, Osum_end, add_zero]

def L (g : GSem nD τ sig) : Finset Unit := if g.1.2 = .tc then {()} else ∅
/-- Credit cells at 1, receive cells at 2, everything else at 0. -/
def lv (g : GSem nD τ sig) (_ : Unit) : ℕ := match dec g.2 with | some (0, _) => 1 | some (2, _) => 2 | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (k : Fin 3) (c : Dev nD) (i : Fin 32) : lv (cell k c i) () = if k = 0 then 1 else if k = 2 then 2 else 0 := by
  dsimp only [lv]; rw [dec_csem]; fin_cases k <;> rfl
theorem lv_none (c : Dev nD) (sm : SemLoc sig) (h : ∀ p, csem p ≠ sm) : lv ((c : Thread nD τ), sm) () = 0 := by
  dsimp only [lv]; rw [dec_none h]

/-- A wait on a cell at level 0 is allowed whatever the device still owes. -/
theorem mayWait_low (c : Dev nD) (sm : SemLoc sig) (h : lv ((c : Thread nD τ), sm) () = 0) (cr js : ℕ) :
    (levAts L lv : sProp 𝕄) ⊢ MayWait (c : Thread nD τ) sm () (O c cr js) := by
  refine MayOwe.of_cut (L := L) (lev := lv) 0 (fun p hp => by rw [Finset.mem_singleton.mp hp, L_tc]; exact Finset.mem_singleton_self _)
    (fun g u hg => by rcases O_pos hg with ⟨-, i, rfl⟩ | ⟨i, rfl⟩ <;> (rw [L_tc]; exact Finset.mem_singleton_self _))
    (fun p hp => by rw [Finset.mem_singleton.mp hp]; exact Nat.le_of_eq h)
    (fun g u hg => by rcases O_pos hg with ⟨-, i, rfl⟩ | ⟨i, rfl⟩ <;> (show 0 < lv _ (); rw [lv_cell]; decide))

/-- A wait for a credit is allowed once every credit is granted. -/
theorem mayWait_credit (c : Dev nD) (i : Fin 32) (js : ℕ) :
    (levAts L lv : sProp 𝕄) ⊢ MayWait (c : Thread nD τ) (csem (0, i)) () (O c 32 js) := by
  refine MayOwe.of_cut (L := L) (lev := lv) 1 (fun p hp => by rw [Finset.mem_singleton.mp hp, L_tc]; exact Finset.mem_singleton_self _)
    (fun g u hg => by rcases O_pos hg with ⟨-, i, rfl⟩ | ⟨i, rfl⟩ <;> (rw [L_tc]; exact Finset.mem_singleton_self _))
    (fun p hp => by rw [Finset.mem_singleton.mp hp]; exact Nat.le_of_eq (lv_cell 0 c i))
    (fun g u hg => by
      rcases O_pos hg with ⟨h, -⟩ | ⟨i, rfl⟩
      · omega
      · show 1 < lv _ (); rw [lv_cell]; decide)

/-- Any wait is allowed once nothing is owed. -/
theorem mayWait_end (c : Dev nD) (sm : SemLoc sig) :
    (levAts L lv : sProp 𝕄) ⊢ MayWait (c : Thread nD τ) sm () (O c 32 32) := by
  rw [O_end, MayWait_zero]; iintro -; iempintro

end Cert.Run
-- ==== Proof.State.lean ====
/-
# The state of a device between two operations

`St` is everything device `c` holds, as a function of nine counters: credits granted, weight chunks started and waited
for, blocks stored, sends started, own-block copies passed, send waits passed, receive waits passed, result rows stored.
Each per-index resource is a family over the index; an operation changes one index of one or two families (`fam_step`).
-/
module

public import proofs.«01_k».proof.Proof.Common

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## One index of a family changes -/

theorem fam_step {M : Type} [URA M] {n : ℕ} {Φ Φ' : Fin n → sProp M} (j : Fin n) (h : ∀ i, i ≠ j → Φ i = Φ' i) :
    bigSep Finset.univ Φ ⊢ (iprop(Φ j ∗ (Φ' j -∗ bigSep Finset.univ Φ')) : sProp M) := by
  have e1 : bigSep Finset.univ Φ = iprop(Φ j ∗ bigSep (Finset.univ.erase j) Φ) := bigSep_erase (Finset.mem_univ j)
  have e2 : bigSep Finset.univ Φ' = iprop(Φ' j ∗ bigSep (Finset.univ.erase j) Φ') := bigSep_erase (Finset.mem_univ j)
  have e3 : bigSep (Finset.univ.erase j) Φ = bigSep (Finset.univ.erase j) Φ' := bigSep_congr fun i hi => h i (Finset.ne_of_mem_erase hi)
  rw [e1, e2, e3]
  iintro ⟨Hj, HR⟩
  isplitl [Hj]; · iexact Hj
  iintro Hj'
  isplitl [Hj'] <;> iassumption

theorem fam_step2 {M : Type} [URA M] {n : ℕ} {Φ Φ' : Fin n → sProp M} (j l : Fin n) (hjl : j ≠ l) (h : ∀ i, i ≠ j → i ≠ l → Φ i = Φ' i) :
    bigSep Finset.univ Φ ⊢ (iprop(Φ j ∗ Φ l ∗ (Φ' j -∗ Φ' l -∗ bigSep Finset.univ Φ')) : sProp M) := by
  have hl : l ∈ Finset.univ.erase j := Finset.mem_erase.mpr ⟨hjl.symm, Finset.mem_univ _⟩
  have e1 : bigSep Finset.univ Φ = iprop(Φ j ∗ Φ l ∗ bigSep ((Finset.univ.erase j).erase l) Φ) := by
    rw [bigSep_erase (Finset.mem_univ j), bigSep_erase hl]; rfl
  have e2 : bigSep Finset.univ Φ' = iprop(Φ' j ∗ Φ' l ∗ bigSep ((Finset.univ.erase j).erase l) Φ') := by
    rw [bigSep_erase (Finset.mem_univ j), bigSep_erase hl]; rfl
  have e3 : bigSep ((Finset.univ.erase j).erase l) Φ = bigSep ((Finset.univ.erase j).erase l) Φ' :=
    bigSep_congr fun i hi => h i (Finset.ne_of_mem_erase (Finset.mem_of_mem_erase hi)) (Finset.ne_of_mem_erase hi)
  rw [e1, e2, e3]
  iintro ⟨Hj, Hl, HR⟩
  isplitl [Hj]; · iexact Hj
  isplitl [Hl]; · iexact Hl
  iintro Hj' Hl'
  isplitl [Hj']; · iexact Hj'
  isplitl [Hl'] <;> iassumption

/-- A family read at one index, given back as it was. -/
theorem fam_at {M : Type} [URA M] {n : ℕ} {Φ : Fin n → sProp M} (j : Fin n) :
    bigSep Finset.univ Φ ⊢ (iprop(Φ j ∗ (Φ j -∗ bigSep Finset.univ Φ)) : sProp M) := fam_step j fun _ _ => rfl

theorem lt_succ_of_ne {n : ℕ} {i j : Fin n} {k : ℕ} (hk : j.val = k) (h : i ≠ j) : (i.val < k) = (i.val < k + 1) := by
  have : i.val ≠ j.val := fun e => h (Fin.ext e)
  exact propext ⟨by omega, by omega⟩

/-! ## The weights -/

variable (m : (ℓ : Loc nD τ sig) → Buf (Elt F) ℓ)

abbrev NW : ℕ := (wS 0).view.dmaCredit
theorem NW_pos : 0 < NW := View.dmaCredit_pos _ (by decide)
/-- The slot column chunk `k` goes through. -/
abbrev sl (k : Fin 8) : Fin 4 := ⟨k.val % 4, Nat.mod_lt _ (by decide)⟩

/-- Column chunk `k` of the weights in device memory; a slot of the weight buffer at anything; the slot holding chunk `k`;
    its semaphore at zero; the chunk on its way. -/
def hPc (c : Dev nD) (k : Fin 8) : sProp 𝕄 :=
  (hS k).view.loc (c : Thread nD τ) ↦[(hS k).view.set]{fullShare} m ((c : Thread nD τ).loc main_arg1)
def wAny (c : Dev nD) (s : Fin 4) : sProp 𝕄 := iprop(∃ f, (wS s).view.loc (c : Thread nD τ) ↦[(wS s).view.set]{fullShare} f)
def wOwn (c : Dev nD) (k : Fin 8) : sProp 𝕄 := owns (c : Thread nD τ) (wS (sl k)) fullShare (wcol m c k)
def wSem (c : Dev nD) (s : Fin 4) : sProp 𝕄 := semVal ((c : Thread nD τ), .dma (wdmaS s)) 0
def wFly (c : Dev nD) (k : Fin 8) : sProp 𝕄 :=
  Flight EC (c : Thread nD τ) (.dma (wdmaS (sl k))) () NW iprop(wOwn m c k ∗ hPc m c k)

/-- Chunk `k` when the first `ws` chunks are started and the first `ww` waited for. -/
def wF (c : Dev nD) (ws ww : ℕ) (k : Fin 8) : sProp 𝕄 :=
  if k.val < ws then (if k.val < ww then iprop(hPc m c k ∗ if k.val + 4 < ws then emp else iprop(wOwn m c k ∗ wSem c (sl k))) else wFly m c k)
  else iprop(hPc m c k ∗ if k.val < 4 then iprop(wAny c (sl k) ∗ wSem c (sl k)) else emp)

/-! ## The exchange -/

/-- The credit for device `i`, until granted: the right to pay it and the landing slot it grants. -/
def crF (c : Dev nD) (cr : ℕ) (i : Fin 32) : sProp 𝕄 :=
  if i = c ∨ i.val < cr then iprop(emp) else iprop(dutyTok ER (cell 0 i c) 0 () ∗ rAny c i)

/-- Outgoing block `i`: anything until stored, then the block, away while its send is under way. -/
def coF (c : Dev nD) (st js sw : ℕ) (i : Fin 32) : sProp 𝕄 :=
  if i.val < st then (if i.val < js ∧ ¬ i.val < sw ∧ i ≠ c then iprop(emp) else cOwn m c i) else cAny c i

/-- The send to device `i`: not begun, under way, over. -/
def seF (c : Dev nD) (js sw : ℕ) (i : Fin 32) : sProp 𝕄 :=
  if i = c then iprop(atPos ER (cell 0 c i) 0 ∅ 0 ∗ atPos ER (cell 1 c i) 0 ∅ 0)
  else if i.val < js then
    (if i.val < sw then iprop(atPos ER (cell 0 c i) 1 ∅ 0 ∗ atPos ER (cell 1 c i) 1 ∅ 0)
     else iprop(cred (tallyAt (cell 1 c i) () N) ∗ atPos ER (cell 0 c i) 1 ∅ 0 ∗ atPos ER (cell 1 c i) 0 ∅ 0))
  else iprop(cred (tallyAt (cell 0 c i) () 1) ∗ atPos ER (cell 0 c i) 0 ∅ 0 ∗ atPos ER (cell 1 c i) 0 ∅ 0
    ∗ dutyTok ER (cell 2 i c) 0 () ∗ dutyTok ER (cell 1 c i) 0 ())

/-- The block from device `i`: expected, landed; the device's own is copied instead. -/
def reF (c : Dev nD) (cp rc : ℕ) (i : Fin 32) : sProp 𝕄 :=
  if i = c then iprop((if i.val < cp then rOwn m c i else rAny c i) ∗ atPos ER (cell 2 c i) 0 ∅ 0)
  else if i.val < rc then iprop(rOwn m c i ∗ atPos ER (cell 2 c i) 1 ∅ 0)
  else iprop(cred (tallyAt (cell 2 c i) () N) ∗ atPos ER (cell 2 c i) 0 ∅ 0)

/-! ## The records every device reads -/

abbrev KIx : Type := Dev nD × (Fin 3 × Fin 32)
abbrev kcell (q : KIx) : GSem nD τ sig := ((q.1 : Thread nD τ), csem q.2)

variable (K : KIx → ℕ)

/-- Every cell of the exchange is governed by the schedule, under the names `K`, and is at round 0. -/
def recs : sProp 𝕄 :=
  iprop((bigSep Finset.univ fun q : KIx => cellInv ER (Rd m) (K q) (kcell q)) ∗ bigSep Finset.univ fun q : KIx => reached ER (kcell q) 0)
instance recs_persistent : BI.Persistent (recs m K) := by unfold recs; infer_instance

theorem recs_inv (k : Fin 3) (c : Dev nD) (i : Fin 32) : recs m K ⊢ cellInv ER (Rd m) (K (c, (k, i))) (cell k c i) := by
  unfold recs
  iintro ⟨H, -⟩
  iapply (show bigSep Finset.univ (fun q : KIx => cellInv ER (Rd m) (K q) (kcell q)) ⊢ cellInv ER (Rd m) (K (c, (k, i))) (cell k c i) from
    bigSep_elim (i := ((c, (k, i)) : KIx)) (Finset.mem_univ _))
  iexact H
theorem recs_reached (k : Fin 3) (c : Dev nD) (i : Fin 32) : recs m K ⊢ reached ER (cell k c i) 0 := by
  unfold recs
  iintro ⟨-, H⟩
  iapply (show bigSep Finset.univ (fun q : KIx => (reached ER (kcell q) 0 : sProp 𝕄)) ⊢ reached ER (cell k c i) 0 from
    bigSep_elim (i := ((c, (k, i)) : KIx)) (Finset.mem_univ _))
  iexact H

/-! ## The whole state -/

def owesF (c : Dev nD) (cr js : ℕ) : sProp 𝕄 := iprop(∃ W, owes (c : Thread nD τ) (O c cr js) W)
def xPts (c : Dev nD) : sProp 𝕄 := ((c : Thread nD τ).loc cc0_stg0_0) ↦{fullShare} xstg m c
def aPts (c : Dev nD) : sProp 𝕄 := ((c : Thread nD τ).loc cc0_stg1_0) ↦{fullShare} astg m c
def bPts (c : Dev nD) : sProp 𝕄 := ((c : Thread nD τ).loc cc0_stg2_0) ↦{fullShare} bstg m c
def oPts (c : Dev nD) (o : ℕ) : sProp 𝕄 := iprop(∃ f, ((c : Thread nD τ).loc cc0_stg3_0) ↦{fullShare} outF m c f o)
def barZ (c : Dev nD) : sProp 𝕄 := semVal ((c : Thread nD τ), .reg barS) 0

/-- Device `c` having granted `cr` credits, started `ws` and waited for `ww` weight chunks, stored `st` blocks, started `js`
    sends, passed `cp` copies, `sw` send waits and `rc` receive waits, and stored `o` row blocks of its result. -/
def St (c : Dev nD) (cr ws ww st js cp sw rc o : ℕ) : sProp 𝕄 :=
  iprop(recs m K ∗ levAts L lv ∗ owesF c cr js ∗ bigSep Finset.univ (crF c cr) ∗ bigSep Finset.univ (wF m c ws ww)
    ∗ bigSep Finset.univ (coF m c st js sw) ∗ bigSep Finset.univ (seF c js sw) ∗ bigSep Finset.univ (reF m c cp rc)
    ∗ xPts m c ∗ aPts m c ∗ bPts m c ∗ oPts m c o ∗ barZ c)

/-- A run of a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

end Cert.Run
-- ==== Proof.Steps.lean ====
/-
# One operation of the kernel at a time

Each theorem takes device `c` over one of the kernel's operations (with the condition it runs under, where it has one):
if the rest of the program runs from the state after it, the program runs from the state before.
-/
module

public import proofs.«01_k».proof.Proof.State
public import Idealize.ShloMosaic.Lib.Pipeline.Value

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Loads and stores through a slot -/

section Slots
variable {sp : CoreSpace} {s s' : Shape} {e : EltTy}

theorem slot_set (M : Memref sig .tc sp s e) (r : Rect s) (hr : ∀ a, r.stride a = 1) (hq : r.shape.Squeezes s') :
    ((M.slice r hr).squeeze s' hq).view.set = (M.access r).set := by
  exact View.set_reshape _ _

theorem shapeCast_inj {α : Type} (hc : s.ShapeCasts s') (hc' : s'.ShapeCasts s) {v w : s.Idx → α} (h : shapeCast s' v hc = shapeCast s' w hc) : v = w := by
  rw [← shapeCast_shapeCast v hc hc', h, shapeCast_shapeCast]

theorem wp_load_slot (c : Dev nD) (M : Memref sig .tc sp s e) (r : Rect s) (hr : ∀ a, r.stride a = 1) (hq : r.shape.Squeezes s')
    (hc : r.shape.ShapeCasts s') (hc' : s'.ShapeCasts r.shape) (w : r.shape.Idx → Elt F e) {hl : M.view.LoadsAt r.toLoadRect} {α : Type}
    {k : (r.shape.Idx → Elt F e) → Prog (TpuEff nD τ sig (Elt F) Λ₀ .tc) α} {Q : α → sProp 𝕄} :
    (owns (c : Thread nD τ) ((M.slice r hr).squeeze s' hq) fullShare (shapeCast s' w hc) : sProp 𝕄)
      ⊢ iprop((owns (c : Thread nD τ) ((M.slice r hr).squeeze s' hq) fullShare (shapeCast s' w hc) -∗ run c (k w) Q)
          -∗ run c (.op (.load M r.toLoadRect hl) k) Q) := by
  unfold owns
  iintro ⟨%f, %hf, H⟩ Hk
  have hv : M.view.readAt (Elt F) r.toLoadRect f = w := shapeCast_inj hc hc' hf
  iapply (wp_load 𝒱₀ (c : Thread nD τ) none Set.univ (m := M) (r := r.toLoadRect) (by rw [slot_set]; exact subset_of_eq (View.set_slice ..).symm)) $$ H
  iintro H
  rw [hv]
  iapply Hk
  iexists f
  isplitr; · ipureintro; exact hf
  iexact H

theorem wp_load_any (c : Dev nD) (M : Memref sig .tc sp s e) (r : Rect s) (hr : ∀ a, r.stride a = 1) (hq : r.shape.Squeezes s')
    {hl : M.view.LoadsAt r.toLoadRect} {α : Type} {p : Prog (TpuEff nD τ sig (Elt F) Λ₀ .tc) α} {Q : α → sProp 𝕄} :
    (iprop(∃ f, ((M.slice r hr).squeeze s' hq).view.loc (c : Thread nD τ) ↦[((M.slice r hr).squeeze s' hq).view.set]{fullShare} f) : sProp 𝕄)
      ⊢ iprop((iprop(∃ f, ((M.slice r hr).squeeze s' hq).view.loc (c : Thread nD τ) ↦[((M.slice r hr).squeeze s' hq).view.set]{fullShare} f) -∗ run c p Q)
          -∗ run c (.op (.load M r.toLoadRect hl) fun _ => p) Q) := by
  iintro ⟨%f, H⟩ Hk
  iapply (wp_load 𝒱₀ (c : Thread nD τ) none Set.univ (m := M) (r := r.toLoadRect) (by rw [slot_set]; exact subset_of_eq (View.set_slice ..).symm)) $$ H
  iintro H
  iapply Hk
  iexists f
  iexact H

theorem wp_store_slot (c : Dev nD) (M : Memref sig .tc sp s e) (r : Rect s) (hr : ∀ a, r.stride a = 1) (hq : r.shape.Squeezes s')
    (hc : r.shape.ShapeCasts s') (w : r.shape.Idx → Elt F e) {hx : (M.access r).Stores Finset.univ}
    {hm : (Finset.univ : Finset r.shape.Idx) = Finset.univ ∨ ∀ a, r.stride a = 1} {α : Type}
    {k : PUnit → Prog (TpuEff nD τ sig (Elt F) Λ₀ .tc) α} {Q : α → sProp 𝕄} :
    (iprop(∃ f, ((M.slice r hr).squeeze s' hq).view.loc (c : Thread nD τ) ↦[((M.slice r hr).squeeze s' hq).view.set]{fullShare} f) : sProp 𝕄)
      ⊢ iprop((owns (c : Thread nD τ) ((M.slice r hr).squeeze s' hq) fullShare (shapeCast s' w hc) -∗ run c (k ⟨⟩) Q)
          -∗ run c (.op (.store M r w Finset.univ hx hm) k) Q) := by
  unfold owns
  iintro ⟨%f, H⟩ Hk
  iapply (wp_store 𝒱₀ (c : Thread nD τ) none Set.univ (m := M) (r := r) (Mk := Finset.univ) (by rw [slot_set]; exact subset_rfl)) $$ H
  iintro H
  iapply Hk
  iexists ((M.access r).write (Elt F) f w Finset.univ)
  isplitr
  · ipureintro
    have : (M.access r).read (Elt F) ((M.access r).write (Elt F) f w Finset.univ) = w := View.read_write_univ ..
    show shapeCast s' ((M.access r).read (Elt F) ((M.access r).write (Elt F) f w Finset.univ)) hc = _
    rw [this]
  iexact H

end Slots

variable (m : (ℓ : Loc nD τ sig) → Buf (Elt F) ℓ) (K : KIx → ℕ)
variable {c : Dev nD} {cr ws ww st js cp sw rc o : ℕ}

/-! ## Leaving the program; the device's number -/

theorem step_ret {α : Type} {Q : α → sProp 𝕄} {P : sProp 𝕄} {x : α} (h : P ⊢ Q x) : P ⊢ run c (pure x) Q := by
  rw [Prog.pure_eq_ret]; unfold run; rw [wp_ret]
  refine h.trans ?_
  iintro H; imodintro; iexact H

theorem step_dev {α : Type} {Q : α → sProp 𝕄} {P : sProp 𝕄} {k : Dev nD → Prog (TpuEff nD τ sig (Elt F) Λ₀ .tc) α} (h : P ⊢ run c (k c) Q) :
    P ⊢ run c (Prog.lift .deviceId >>= k) Q := by
  simp only [Prog.lift, Prog.bind_op, Prog.bind_ret, wp_deviceId]; exact h

/-! ## The entry signal to itself -/

theorem step_bar {α : Type} {Q : α → sProp 𝕄} {p : Prog (TpuEff nD τ sig (Elt F) Λ₀ .tc) α}
    (h : St m K c cr ws ww st js cp sw rc o ⊢ run c p Q) :
    St m K c cr ws ww st js cp sw rc o ⊢ run c (semSignalHereWord barS 1#32 >>= fun _ => semWaitWord barS 1#32 >>= fun _ => p) Q := by
  simp only [semSignalHereWord, semWaitWord, Prog.lift, Prog.bind_op, Prog.bind_ret, wp_deviceId]
  unfold St barZ owesF at *
  iintro ⟨#Hr, #Hl, ⟨%W, HO⟩, H1, H2, H3, H4, H5, Hx, Ha, Hb, Ho, Hz⟩
  iapply (wp_signalLocal EC 𝒱₀ (c : Thread nD τ) none () rfl) $$ Hz
  iintro Hs
  iapply (wp_semWaitLocalO EC 𝒱₀ (c : Thread nD τ) none () (by decide)) $$ [Hs HO]
  · isplitl [Hs]; · iexact Hs
    isplitl [HO]; · iexact HO
    iapply (mayWait_low c (.reg barS) (lv_none c _ csem_ne_bar) cr js); iexact Hl
  iintro ⟨Hz, HO⟩
  iapply h
  isplitr; · iexact Hr
  isplitr; · iexact Hl
  isplitl [HO]; · iexists _; iexact HO
  iframe

/-! ## Granting a credit -/

theorem step_credit {α : Type} {Q : α → sProp 𝕄} (n : ℕ) (hn : n < 32) {cond : Dev nD → BitVec 1} {off : Dev nD → Fin 1 → ℕ} {dv : ℕ}
    {inb : ∀ d, cond d = 1#1 → ∀ a, off d a + S1.size a ≤ S32.size a} {lt : ∀ d, cond d = 1#1 → dv < nD}
    {p : Prog (TpuEff nD τ sig (Elt F) Λ₀ .tc) α}
    (h : St m K c (n + 1) ws ww st js cp sw rc o ⊢ run c p Q)
    (hc : ∀ d, cond d = 1#1 ↔ d.val ≠ n := by decide +kernel) (hoff : ∀ d, off d = ![d.val] := by decide +kernel)
    (hdv : dv = n := by decide +kernel) :
    St m K c n ws ww st js cp sw rc o ⊢ run c (dite (cond c = 1#1)
      (fun hh => semSignalWord (⟨dv, lt c hh⟩ : Dev nD)
        ((cc0_scratch6.slice (Rect.unit (s := S32) (off c) S1.size (inb c hh))).squeeze S_ squeezes_S1_S_).sem 1#32 >>= fun _ => p) (fun _ => p)) Q := by
  have hoff' : off = fun d => ![d.val] := funext hoff
  subst hoff'; have hdv' := hdv.symm; subst hdv'
  split
  · rename_i hh
    have hne : (⟨n, hn⟩ : Fin 32) ≠ c := fun e => (hc c).mp hh (by rw [← e])
    show _ ⊢ run c (semSignalWord (⟨n, hn⟩ : Dev nD) (credS c) 1#32 >>= fun _ => p) Q
    simp only [semSignalWord, Prog.lift, Prog.bind_op, Prog.bind_ret]
    have e0 : (crF c n ⟨n, hn⟩ : sProp 𝕄) = iprop(dutyTok ER (cell 0 ⟨n, hn⟩ c) 0 () ∗ rAny c ⟨n, hn⟩) := by
      unfold crF; rw [if_neg]; rintro (h1 | h1); exacts [hne h1, Nat.lt_irrefl _ h1]
    have e1 : (crF c (n + 1) ⟨n, hn⟩ : sProp 𝕄) = iprop(emp) := by unfold crF; rw [if_pos (.inr (Nat.lt_succ_self _))]
    have hf := fam_step (M := 𝕄) (Φ := crF c n) (Φ' := crF c (n + 1)) ⟨n, hn⟩ fun i hi => by
      unfold crF; simp only [lt_succ_of_ne (k := n) (j := ⟨n, hn⟩) rfl hi]
    rw [e0, e1] at hf
    unfold St owesF at *
    iintro ⟨#Hr, #Hl, ⟨%W, HO⟩, H1, H2, H3, H4, H5, Hx, Ha, Hb, Ho, Hz⟩
    ihave H1' := hf $$ H1
    icases H1' with ⟨⟨Htok, Hslot⟩, Hback⟩
    iapply (Rounds.wp_signal 𝒱₀ ER (Rd m) (c : Thread nD τ) none (dst := ((⟨n, hn⟩ : Dev nD) : Thread nD τ)) (sem := credS c)
        (κ := K (⟨n, hn⟩, (0, c))) (r := 0) (d := ())
        (by show () ∈ (Rd m).duties (cell 0 ⟨n, hn⟩ c) 0; rw [duties_live m 0 _ _ hne.symm]; exact Finset.mem_singleton_self _)
        ((amount_eq m 0 ⟨n, hn⟩ c ()).trans rfl) () (O c (n + 1) js)
        (by show O c n js = _; unfold O; rw [Osum_step c 0 n 1 hn hne, add_right_comm]; rfl)) $$ [HO Htok Hslot]
    · isplitr; · iapply (recs_inv m K 0 ⟨n, hn⟩ c); iexact Hr
      isplitl [HO]; · iexact HO
      isplitl [Htok]; · iexact Htok
      isplitl [Hslot]
      · iapply (show pay m ⟨n, hn⟩ (0, c) ⊢ (Rd m).payload (((⟨n, hn⟩ : Dev nD) : Thread nD τ), .reg (credS c)) 0 () from
          Entails.of_eq (payload_eq m 0 ⟨n, hn⟩ c ()).symm)
        unfold pay
        isplitl [Hslot]; · iexact Hslot
        iapply (recs_reached m K 2 c ⟨n, hn⟩); iexact Hr
      · iapply (recs_reached m K 0 ⟨n, hn⟩ c); iexact Hr
    iintro HO
    iapply h
    isplitr; · iexact Hr
    isplitr; · iexact Hl
    isplitl [HO]; · iexists _; iexact HO
    isplitl [Hback]; · iapply Hback; iempintro
    iframe
  · rename_i hh
    have he : (⟨n, hn⟩ : Fin 32) = c := by
      by_contra hne; exact hh ((hc c).mpr fun e => hne (Fin.ext e.symm))
    refine Entails.trans (Entails.of_eq ?_) h
    unfold St owesF
    have e1 : (crF c n : Fin 32 → sProp 𝕄) = crF c (n + 1) := by
      funext i; unfold crF
      by_cases hi : i = c
      · rw [if_pos (.inl hi), if_pos (.inl hi)]
      · simp only [lt_succ_of_ne (k := n) (j := ⟨n, hn⟩) rfl (fun e => hi (e.trans he))]
    rw [e1, show O c n js = O c (n + 1) js from by unfold O; rw [Osum_self c 0 n 1 hn he]]

end Cert.Run
-- ==== Proof.Weights.lean ====
/-
# The weight chunks, the scales, the rows of `x` and the result rows, one operation at a time
-/
module

public import proofs.«01_k».proof.Proof.Steps

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : KIx → ℕ)
variable {c : Dev nD} {cr ws ww st js cp sw rc o : ℕ} {α : Type}

/-! ## A weight chunk's copy -/

abbrev HereOk (k : Fin 8) : Prop :=
  DmaTarget.Typed (nD := nD) (τ := τ) (sig := sig) .hbm (.dma (wdmaS (sl k))) (DmaTarget.here (nD := nD) (τ := τ) (sig := sig) (p := .tc) (wS (sl k)))
theorem castS : S1x4096x256.ShapeCasts S4096x256 := by decide

theorem wp_wstart (k : Fin 8) {p : Prog (TpuEff nD τ sig (Elt F) Λ₀ .tc) α} {Q : α → sProp 𝕄}
    {h1 : (hS k).view.WordExact} {h2 : (wS (sl k)).view.WordExact} {h3 : HereOk k} :
    iprop(hPc m c k ∗ wAny c (sl k) ∗ wSem c (sl k))
      ⊢ iprop((wFly m c k -∗ run c p Q) -∗ run c (Prog.lift (.enqueueDma (hS k) (.here (wS (sl k))) (.dma (wdmaS (sl k))) h1 h2 h3) >>= fun _ => p) Q) := by
  simp only [Prog.lift, Prog.bind_op, Prog.bind_ret]
  unfold hPc wAny wSem
  iintro ⟨Hs, ⟨%f, Hd⟩, Hv⟩ Hk
  iapply (wp_dmaLocal EC 𝒱₀ (c : Thread nD τ) none (src := hS k) (dst := wS (sl k)) () NW rfl NW_pos subset_rfl) $$ [Hs Hd Hv]
  · isplitl [Hs]; · iexact Hs
    isplitl [Hd]; · iexact Hd
    iexact Hv
  iintro H
  iapply Hk
  unfold wFly
  iapply (Flight_mono EC (c : Thread nD τ) ?hm) $$ H
  case hm =>
    unfold wOwn owns hPc
    iintro ⟨Hd, Hs⟩
    isplitr [Hs]
    · iexists ((wS (sl k)).view.write (Elt F) f ((hS k).view.read (Elt F) (m ((c : Thread nD τ).loc main_arg1))) Finset.univ)
      isplitr
      · ipureintro; exact View.read_write_univ ..
      · iexact Hd
    · iexact Hs

/-- Chunk `ws` (one of the first four) is started into a slot not used yet. -/
theorem step_wstart {Q : α → sProp 𝕄} {p : Prog (TpuEff nD τ sig (Elt F) Λ₀ .tc) α} (k : Fin 8) (hk : k.val = ws := by rfl) (hk4 : k.val < 4 := by decide)
    (hw : ww ≤ ws := by decide)
    {h1 : (hS k).view.WordExact} {h2 : (wS (sl k)).view.WordExact} {h3 : HereOk k}
    (h : St m K c cr (ws + 1) ww st js cp sw rc o ⊢ run c p Q) :
    St m K c cr ws ww st js cp sw rc o
      ⊢ run c (Prog.lift (.enqueueDma (hS k) (.here (wS (sl k))) (.dma (wdmaS (sl k))) h1 h2 h3) >>= fun _ => p) Q := by
  have e0 : (wF m c ws ww k : sProp 𝕄) = iprop(hPc m c k ∗ wAny c (sl k) ∗ wSem c (sl k)) := by
    unfold wF; rw [if_neg (by omega), if_pos hk4]
  have e1 : (wF m c (ws + 1) ww k : sProp 𝕄) = wFly m c k := by
    unfold wF; rw [if_pos (by omega), if_neg (by omega)]
  have hf := fam_step (M := 𝕄) (Φ := wF m c ws ww) (Φ' := wF m c (ws + 1) ww) k fun i hi => by
    have h4 : (i.val + 4 < ws) = (i.val + 4 < ws + 1) := propext ⟨by omega, by omega⟩
    unfold wF; simp only [lt_succ_of_ne hk hi, h4]
  rw [e0, e1] at hf
  unfold St at *
  iintro ⟨#Hr, #Hl, HO, H1, H2, H3, H4, H5, Hx, Ha, Hb, Ho, Hz⟩
  ihave H2' := hf $$ H2
  icases H2' with ⟨Hk, Hback⟩
  iapply (wp_wstart m k) $$ Hk
  iintro Hf
  iapply h
  isplitr; · iexact Hr
  isplitr; · iexact Hl
  isplitl [HO]; · iexact HO
  isplitl [H1]; · iexact H1
  isplitl [Hback Hf]; · iapply Hback; iexact Hf
  iframe

/-- Chunk `ws` is started into the slot of chunk `ws - 4`, which has been read. -/
theorem step_wnext {Q : α → sProp 𝕄} {p : Prog (TpuEff nD τ sig (Elt F) Λ₀ .tc) α} (k : Fin 8) (hk : k.val = ws := by rfl) (hk4 : 4 ≤ k.val := by decide)
    (hw : ww ≤ ws := by decide) (hw' : ws < ww + 4 := by decide)
    {h1 : (hS k).view.WordExact} {h2 : (wS (sl k)).view.WordExact} {h3 : HereOk k}
    (h : St m K c cr (ws + 1) ww st js cp sw rc o ⊢ run c p Q) :
    St m K c cr ws ww st js cp sw rc o
      ⊢ run c (Prog.lift (.enqueueDma (hS k) (.here (wS (sl k))) (.dma (wdmaS (sl k))) h1 h2 h3) >>= fun _ => p) Q := by
  let l : Fin 8 := ⟨k.val - 4, by omega⟩
  have hl : l.val + 4 = ws := by show k.val - 4 + 4 = ws; omega
  have hsl : sl l = sl k := Fin.ext (by show (k.val - 4) % 4 = k.val % 4; omega)
  have e0 : (wF m c ws ww k : sProp 𝕄) = iprop(hPc m c k ∗ emp) := by
    unfold wF; rw [if_neg (by omega), if_neg (by omega)]
  have e1 : (wF m c (ws + 1) ww k : sProp 𝕄) = wFly m c k := by
    unfold wF; rw [if_pos (by omega), if_neg (by omega)]
  have e2 : (wF m c ws ww l : sProp 𝕄) = iprop(hPc m c l ∗ wOwn m c l ∗ wSem c (sl k)) := by
    unfold wF; rw [if_pos (by omega), if_pos (by omega), if_neg (by omega), hsl]
  have e3 : (wF m c (ws + 1) ww l : sProp 𝕄) = iprop(hPc m c l ∗ emp) := by
    unfold wF; rw [if_pos (by omega), if_pos (by omega), if_pos (by omega)]
  have hf := fam_step2 (M := 𝕄) (Φ := wF m c ws ww) (Φ' := wF m c (ws + 1) ww) k l (fun e => by rw [← e] at hl; omega) fun i hi hil => by
    have h4 : (i.val + 4 < ws) = (i.val + 4 < ws + 1) := by
      have : i.val ≠ l.val := fun e => hil (Fin.ext e)
      exact propext ⟨by omega, by omega⟩
    unfold wF; simp only [lt_succ_of_ne hk hi, h4]
  rw [e0, e1, e2, e3] at hf
  have hany : (wOwn m c l : sProp 𝕄) ⊢ wAny c (sl k) := by
    rw [← hsl]; unfold wOwn owns wAny
    iintro ⟨%f, -, H⟩
    iexists f; iexact H
  unfold St at *
  iintro ⟨#Hr, #Hl, HO, H1, H2, H3, H4, H5, Hx, Ha, Hb, Ho, Hz⟩
  ihave H2' := hf $$ H2
  icases H2' with ⟨⟨Hk, -⟩, ⟨Hpl, Hown, Hsem⟩, Hback⟩
  iapply (wp_wstart m k) $$ [Hk Hown Hsem]
  · isplitl [Hk]; · iexact Hk
    isplitl [Hown]; · iapply hany; iexact Hown
    iexact Hsem
  iintro Hf
  iapply h
  isplitr; · iexact Hr
  isplitr; · iexact Hl
  isplitl [HO]; · iexact HO
  isplitl [H1]; · iexact H1
  isplitl [Hback Hf Hpl]
  · iapply Hback $$ Hf
    isplitl [Hpl]; · iexact Hpl
    iempintro
  iframe

/-- The wait for chunk `ww`. -/
theorem step_wwait {Q : α → sProp 𝕄} {p : Prog (TpuEff nD τ sig (Elt F) Λ₀ .tc) α} (k : Fin 8) (hk : k.val = ww := by rfl)
    (hw : ww < ws := by decide) (hw' : ws ≤ ww + 4 := by decide)
    {h1 : (hS k).view.WordExact} {h2 : (wS (sl k)).view.WordExact}
    (h : St m K c cr ws (ww + 1) st js cp sw rc o ⊢ run c p Q) :
    St m K c cr ws ww st js cp sw rc o ⊢ run c (Prog.lift (.waitDma2 (wdmaS (sl k)) (hS k) (wS (sl k)) h1 h2) >>= fun _ => p) Q := by
  simp only [Prog.lift, Prog.bind_op, Prog.bind_ret]
  have e0 : (wF m c ws ww k : sProp 𝕄) = wFly m c k := by
    unfold wF; rw [if_pos (by omega), if_neg (by omega)]
  have e1 : (wF m c ws (ww + 1) k : sProp 𝕄) = iprop(hPc m c k ∗ wOwn m c k ∗ wSem c (sl k)) := by
    unfold wF; rw [if_pos (by omega), if_pos (by omega), if_neg (by omega)]
  have hf := fam_step (M := 𝕄) (Φ := wF m c ws ww) (Φ' := wF m c ws (ww + 1)) k fun i hi => by
    unfold wF; simp only [lt_succ_of_ne hk hi]
  rw [e0, e1] at hf
  unfold St owesF at *
  iintro ⟨#Hr, #Hl, ⟨%W, HO⟩, H1, H2, H3, H4, H5, Hx, Ha, Hb, Ho, Hz⟩
  ihave H2' := hf $$ H2
  icases H2' with ⟨Hk, Hback⟩
  unfold wFly
  iapply (wp_waitLocalO EC 𝒱₀ (c : Thread nD τ) none (srcw := hS k) (dstw := wS (sl k)) () rfl) $$ [Hk HO]
  · isplitl [Hk]; · iexact Hk
    isplitl [HO]; · iexact HO
    iapply (mayWait_low c (.dma (wdmaS (sl k))) (lv_none c _ (csem_ne_wdma _)) cr js); iexact Hl
  iintro ⟨⟨Hown, Hpc⟩, Hv, HO⟩
  iapply h
  isplitr; · iexact Hr
  isplitr; · iexact Hl
  isplitl [HO]; · iexists _; iexact HO
  isplitl [H1]; · iexact H1
  isplitl [Hback Hown Hpc Hv]
  · iapply Hback
    isplitl [Hpc]; · iexact Hpc
    isplitl [Hown]; · iexact Hown
    unfold wSem; iexact Hv
  iframe

/-- Chunk `k`'s slot is read. -/
theorem step_loadw {Q : α → sProp 𝕄} (k : Fin 8) (hk : k.val < ww := by decide) (hw : k.val < ws := by decide) (hw' : ws ≤ k.val + 4 := by decide)
    {hl : wM.view.LoadsAt (rectW (sl k)).toLoadRect} {p : Vec F S1x4096x256 .f32 → Prog (TpuEff nD τ sig (Elt F) Λ₀ .tc) α}
    (h : St m K c cr ws ww st js cp sw rc o ⊢ run c (p (wwide m c k)) Q) :
    St m K c cr ws ww st js cp sw rc o ⊢ run c (Prog.lift (.load wM (rectW (sl k)).toLoadRect hl) >>= p) Q := by
  simp only [Prog.lift, Prog.bind_op, Prog.bind_ret]
  have e0 : (wF m c ws ww k : sProp 𝕄) = iprop(hPc m c k ∗ wOwn m c k ∗ wSem c (sl k)) := by
    unfold wF; rw [if_pos hw, if_pos hk, if_neg (by omega)]
  have hf := fam_at (M := 𝕄) (Φ := wF m c ws ww) k
  rw [e0] at hf
  have e1 : wcol m c k = shapeCast S4096x256 (wwide m c k) castS := by
    unfold wwide; exact (shapeCast_shapeCast _ _ _).symm
  have hown : (wOwn m c k : sProp 𝕄) = owns (c : Thread nD τ) (wS (sl k)) fullShare (shapeCast S4096x256 (wwide m c k) castS) := by
    unfold wOwn; rw [← e1]
  rw [hown] at hf
  unfold St at *
  iintro ⟨#Hr, #Hl, HO, H1, H2, H3, H4, H5, Hx, Ha, Hb, Ho, Hz⟩
  ihave H2' := hf $$ H2
  icases H2' with ⟨⟨Hpc, Hown, Hs⟩, Hback⟩
  iapply (wp_load_slot c wM (rectW (sl k)) (fun _ => rfl) squeezes_S1x4096x256_S4096x256 castS castW (wwide m c k)) $$ Hown
  iintro Hown
  iapply h
  isplitr; · iexact Hr
  isplitr; · iexact Hl
  isplitl [HO]; · iexact HO
  isplitl [H1]; · iexact H1
  isplitl [Hback Hown Hpc Hs]
  · iapply Hback
    isplitl [Hpc]; · iexact Hpc
    isplitl [Hown] <;> iassumption
  iframe

/-! ## The scales, the rows of `x`, the result rows -/

theorem step_loada {Q : α → sProp 𝕄} {p : Elt F .f32 → Prog (TpuEff nD τ sig (Elt F) Λ₀ .tc) α}
    (h : St m K c cr ws ww st js cp sw rc o ⊢ run c (p (aval m c)) Q) :
    St m K c cr ws ww st js cp sw rc o ⊢ run c (smemLoad aM rect1 numel1_S1 rfl >>= p) Q := by
  show _ ⊢ run c (smemLoadElt aM rect1 (View.loads_smem_one rfl numel1_S1) (Shape.Idx.first (Nat.lt_of_lt_of_eq Nat.zero_lt_one numel1_S1.symm)) p) Q
  unfold St aPts at *
  iintro ⟨#Hr, #Hl, HO, H1, H2, H3, H4, H5, Hx, Ha, Hb, Ho, Hz⟩
  iapply (wp_smemLoadElt 𝒱₀ (c : Thread nD τ) none Set.univ (m := aM) (r := rect1) (S := Finset.univ) (f := astg m c) (Finset.subset_univ _)) $$ Ha
  iintro Ha
  iapply h
  isplitr; · iexact Hr
  isplitr; · iexact Hl
  iframe

theorem step_loadb {Q : α → sProp 𝕄} {p : Elt F .f32 → Prog (TpuEff nD τ sig (Elt F) Λ₀ .tc) α}
    (h : St m K c cr ws ww st js cp sw rc o ⊢ run c (p (bval m c)) Q) :
    St m K c cr ws ww st js cp sw rc o ⊢ run c (smemLoad bM rect1 numel1_S1 rfl >>= p) Q := by
  show _ ⊢ run c (smemLoadElt bM rect1 (View.loads_smem_one rfl numel1_S1) (Shape.Idx.first (Nat.lt_of_lt_of_eq Nat.zero_lt_one numel1_S1.symm)) p) Q
  unfold St bPts at *
  iintro ⟨#Hr, #Hl, HO, H1, H2, H3, H4, H5, Hx, Ha, Hb, Ho, Hz⟩
  iapply (wp_smemLoadElt 𝒱₀ (c : Thread nD τ) none Set.univ (m := bM) (r := rect1) (S := Finset.univ) (f := bstg m c) (Finset.subset_univ _)) $$ Hb
  iintro Hb
  iapply h
  isplitr; · iexact Hr
  isplitr; · iexact Hl
  iframe

theorem step_loadx {Q : α → sProp 𝕄} {hl : xM.view.LoadsAt rectX.toLoadRect} {p : Vec F S128x4096 .f32 → Prog (TpuEff nD τ sig (Elt F) Λ₀ .tc) α}
    (h : St m K c cr ws ww st js cp sw rc o ⊢ run c (p (xval m c)) Q) :
    St m K c cr ws ww st js cp sw rc o ⊢ run c (Prog.lift (.load xM rectX.toLoadRect hl) >>= p) Q := by
  simp only [Prog.lift, Prog.bind_op, Prog.bind_ret]
  unfold St xPts at *
  iintro ⟨#Hr, #Hl, HO, H1, H2, H3, H4, H5, Hx, Ha, Hb, Ho, Hz⟩
  iapply (wp_load 𝒱₀ (c : Thread nD τ) none Set.univ (m := xM) (r := rectX.toLoadRect) (Finset.subset_univ _)) $$ Hx
  iintro Hx
  iapply h
  isplitr; · iexact Hr
  isplitr; · iexact Hl
  iframe

/-- The result row block `u` is read (the value is not used). -/
theorem step_loado {Q : α → sProp 𝕄} (u : Fin 32) {hl : oM.view.LoadsAt (rectO u).toLoadRect} {p : Prog (TpuEff nD τ sig (Elt F) Λ₀ .tc) α}
    (h : St m K c cr ws ww st js cp sw rc o ⊢ run c p Q) :
    St m K c cr ws ww st js cp sw rc o ⊢ run c (Prog.lift (.load oM (rectO u).toLoadRect hl) >>= fun _ => p) Q := by
  simp only [Prog.lift, Prog.bind_op, Prog.bind_ret]
  unfold St oPts at *
  iintro ⟨#Hr, #Hl, HO, H1, H2, H3, H4, H5, Hx, Ha, Hb, ⟨%f, Ho⟩, Hz⟩
  iapply (wp_load 𝒱₀ (c : Thread nD τ) none Set.univ (m := oM) (r := (rectO u).toLoadRect) (Finset.subset_univ _)) $$ Ho
  iintro Ho
  iapply h
  isplitr; · iexact Hr
  isplitr; · iexact Hl
  iframe
  iexists f; iexact Ho

/-- The result row block `o` is stored. -/
theorem step_storeo {Q : α → sProp 𝕄} (u : Fin 32) (hu : u.val = o := by rfl) {w : FVec F S128x64 .f32} (hw : w = outw m c u)
    {hx : (oM.access (rectO u)).Stores Finset.univ} {hm : (Finset.univ : Finset (rectO u).shape.Idx) = Finset.univ ∨ ∀ a, (rectO u).stride a = 1}
    {p : Prog (TpuEff nD τ sig (Elt F) Λ₀ .tc) α}
    (h : St m K c cr ws ww st js cp sw rc (o + 1) ⊢ run c p Q) :
    St m K c cr ws ww st js cp sw rc o ⊢ run c (Prog.lift (.store oM (rectO u) w Finset.univ hx hm) >>= fun _ => p) Q := by
  simp only [Prog.lift, Prog.bind_op, Prog.bind_ret]
  subst hw
  have ho : o < 32 := hu ▸ u.isLt
  have hu' : u = ⟨o, ho⟩ := Fin.ext hu
  subst hu'
  have e : ∀ f, outF m c f (o + 1) = (oM.access (rectO ⟨o, ho⟩)).write (Elt F) (outF m c f o) (outw m c ⟨o, ho⟩) Finset.univ := fun f => by
    show (if h : o < 32 then _ else _) = _; rw [dif_pos ho]
  unfold St oPts at *
  simp only [e] at h
  iintro ⟨#Hr, #Hl, HO, H1, H2, H3, H4, H5, Hx, Ha, Hb, ⟨%f, Ho⟩, Hz⟩
  iapply (wp_store 𝒱₀ (c : Thread nD τ) none Set.univ (m := oM) (r := rectO ⟨o, ho⟩) (Mk := Finset.univ) (Finset.subset_univ _)) $$ Ho
  iintro Ho
  iapply h
  isplitr; · iexact Hr
  isplitr; · iexact Hl
  iframe
  iexists f; iexact Ho

end Cert.Run
-- ==== Proof.Exchange.lean ====
/-
# The blocks' exchange, one operation at a time
-/
module

public import proofs.«01_k».proof.Proof.Weights

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : KIx → ℕ)
variable {c : Dev nD} {cr ws ww st js cp sw rc o : ℕ} {α : Type}

/-! ## The device's number as the kernel computes it -/

/-- The kernel's copy of the device's number. -/
abbrev v2w (c : Dev nD) : BitVec 32 := Scalar.remsi (Scalar.divsi (Dev.word c) 1#32) 32#32

theorem own_iff (c : Dev nD) (n : ℕ) (hn : n < 32) :
    Scalar.cmpi .ne (Scalar.extui (Scalar.cmpi .eq (v2w c) (BitVec.ofNat 32 n)) : BitVec 32) 0#32 = 1#1 ↔ c.val = n := by
  have h : ∀ (c : Dev nD) (n : Fin 32),
      Scalar.cmpi .ne (Scalar.extui (Scalar.cmpi .eq (v2w c) (BitVec.ofNat 32 n.val)) : BitVec 32) 0#32 = 1#1 ↔ c.val = n.val := by decide +kernel
  exact h c ⟨n, hn⟩
theorem other_iff (c : Dev nD) (n : ℕ) (hn : n < 32) :
    Scalar.cmpi .ne (Scalar.extui (Scalar.cmpi .ne (v2w c) (BitVec.ofNat 32 n)) : BitVec 32) 0#32 = 1#1 ↔ c.val ≠ n := by
  have h : ∀ (c : Dev nD) (n : Fin 32),
      Scalar.cmpi .ne (Scalar.extui (Scalar.cmpi .ne (v2w c) (BitVec.ofNat 32 n.val)) : BitVec 32) 0#32 = 1#1 ↔ c.val ≠ n.val := by decide +kernel
  exact h c ⟨n, hn⟩

/-! ## Storing an outgoing block -/

theorem wide3 : S64x128.ShapeCasts S1x64x128 := shapeCasts_S64x128_S1x64x128
theorem flat3 : S1x64x128.ShapeCasts S64x128 := shapeCasts_S1x64x128_S64x128

theorem step_loadc {Q : α → sProp 𝕄} (j : Fin 32) (hj : st ≤ j.val := by decide)
    {hl : cM.view.LoadsAt (rect3 j).toLoadRect} {p : Prog (TpuEff nD τ sig (Elt F) Λ₀ .tc) α}
    (h : St m K c cr ws ww st js cp sw rc o ⊢ run c p Q) :
    St m K c cr ws ww st js cp sw rc o ⊢ run c (Prog.lift (.load cM (rect3 j).toLoadRect hl) >>= fun _ => p) Q := by
  simp only [Prog.lift, Prog.bind_op, Prog.bind_ret]
  have e0 : (coF m c st js sw j : sProp 𝕄) = cAny c j := by unfold coF; rw [if_neg (by omega)]
  have hf := fam_at (M := 𝕄) (Φ := coF m c st js sw) j
  rw [e0] at hf
  unfold St at h ⊢
  iintro ⟨#Hr, #Hl, HO, H1, H2, H3, H4, H5, Hx, Ha, Hb, Ho, Hz⟩
  ihave H3' := hf $$ H3
  icases H3' with ⟨Hj, Hback⟩
  unfold cAny
  iapply (wp_load_any c cM (rect3 j) (fun _ => rfl) squeezes_S1x64x128_S64x128) $$ Hj
  iintro Hj
  iapply h
  isplitr; · iexact Hr
  isplitr; · iexact Hl
  isplitl [HO]; · iexact HO
  isplitl [H1]; · iexact H1
  isplitl [H2]; · iexact H2
  isplitl [Hback Hj]; · iapply Hback; iexact Hj
  iframe

/-- Block `st` is stored. -/
theorem step_storec {Q : α → sProp 𝕄} (j : Fin 32) (hj : j.val = st := by rfl) (hjs : js ≤ st := by decide) {w : FVec F S1x64x128 .bf16} (hw : w = blkw m c j)
    {hx : (cM.access (rect3 j)).Stores Finset.univ} {hm : (Finset.univ : Finset (rect3 j).shape.Idx) = Finset.univ ∨ ∀ a, (rect3 j).stride a = 1}
    {p : Prog (TpuEff nD τ sig (Elt F) Λ₀ .tc) α}
    (h : St m K c cr ws ww (st + 1) js cp sw rc o ⊢ run c p Q) :
    St m K c cr ws ww st js cp sw rc o ⊢ run c (Prog.lift (.store cM (rect3 j) w Finset.univ hx hm) >>= fun _ => p) Q := by
  simp only [Prog.lift, Prog.bind_op, Prog.bind_ret]
  subst hw
  have e0 : (coF m c st js sw j : sProp 𝕄) = cAny c j := by unfold coF; rw [if_neg (by omega)]
  have e1 : (coF m c (st + 1) js sw j : sProp 𝕄) = owns (c : Thread nD τ) (cS j) fullShare (shapeCast S64x128 (blkw m c j) flat3) := by
    unfold coF; rw [if_pos (by omega), if_neg (by rintro ⟨h1, -, -⟩; omega)]; rfl
  have hf := fam_step (M := 𝕄) (Φ := coF m c st js sw) (Φ' := coF m c (st + 1) js sw) j fun i hi => by
    unfold coF; simp only [lt_succ_of_ne hj hi]
  rw [e0, e1] at hf
  unfold St at h ⊢
  iintro ⟨#Hr, #Hl, HO, H1, H2, H3, H4, H5, Hx, Ha, Hb, Ho, Hz⟩
  ihave H3' := hf $$ H3
  icases H3' with ⟨Hj, Hback⟩
  unfold cAny
  iapply (wp_store_slot c cM (rect3 j) (fun _ => rfl) squeezes_S1x64x128_S64x128 flat3 (blkw m c j)) $$ Hj
  iintro Hj
  iapply h
  isplitr; · iexact Hr
  isplitr; · iexact Hl
  isplitl [HO]; · iexact HO
  isplitl [H1]; · iexact H1
  isplitl [H2]; · iexact H2
  isplitl [Hback Hj]; · iapply Hback; iexact Hj
  iframe

/-! ## Sending it -/

abbrev ToOk (j : Fin 32) (dst : Memref sig .tc .vmem S64x128 .bf16) (d : Dev nD) (sS sR : DmaSem sig) : Prop :=
  DmaTarget.Typed (nD := nD) (τ := τ) (sig := sig) .vmem (.dma sR) (DmaTarget.remote (nD := nD) (τ := τ) (sig := sig) (p := .tc) (Dev.tc d) dst (.dma sS))

/-- Device `c` waits for device `js`'s credit and starts sending it its block; for `js = c` it does neither. -/
theorem step_send {Q : α → sProp 𝕄} (j : Fin 32) (hj : j.val = js := by rfl) (hst : js < st := by decide) (hsw : sw ≤ js := by decide)
    {cond : Dev nD → BitVec 1} {off : Dev nD → Fin 1 → ℕ} {off3 : Dev nD → Fin 3 → ℕ} {dv : ℕ}
    {inb : ∀ d, cond d = 1#1 → ∀ a, off d a + S1.size a ≤ S32.size a} {inb' : ∀ d, cond d = 1#1 → ∀ a, off3 d a + S1x64x128.size a ≤ S32x64x128.size a}
    {lt : ∀ d, cond d = 1#1 → dv < nD} {p : Prog (TpuEff nD τ sig (Elt F) Λ₀ .tc) α}
    {h1 : cond c = 1#1 → (cS j).view.WordExact}
    {h2 : ∀ hh : cond c = 1#1, ((rM.slice (Rect.unit (s := S32x64x128) (off3 c) S1x64x128.size (inb' c hh)) (fun _ => rfl)).squeeze S64x128 squeezes_S1x64x128_S64x128).view.WordExact}
    {h3 : ∀ hh : cond c = 1#1, ToOk j ((rM.slice (Rect.unit (s := S32x64x128) (off3 c) S1x64x128.size (inb' c hh)) (fun _ => rfl)).squeeze S64x128 squeezes_S1x64x128_S64x128)
      ⟨dv, lt c hh⟩ (sendS j) ((cc0_scratch5.slice (Rect.unit (s := S32) (off c) S1.size (inb c hh))).squeeze S_ squeezes_S1_S_).sem}
    (h : St m K c 32 ws ww st (js + 1) cp sw rc o ⊢ run c p Q)
    (hc : ∀ d, cond d = 1#1 ↔ d.val ≠ j.val := by decide +kernel) (hoff : ∀ d, off d = ![d.val] := by decide +kernel)
    (hoff3 : ∀ d, off3 d = ![d.val, 0, 0] := by decide +kernel) (hdv : dv = j.val := by decide +kernel) :
    St m K c 32 ws ww st js cp sw rc o ⊢ run c (dite (cond c = 1#1)
      (fun hh => semWaitWord (credS j) 1#32 >>= fun _ =>
        Prog.lift (.enqueueDma (cS j) (.remote (Dev.tc (⟨dv, lt c hh⟩ : Dev nD))
          ((rM.slice (Rect.unit (s := S32x64x128) (off3 c) S1x64x128.size (inb' c hh)) (fun _ => rfl)).squeeze S64x128 squeezes_S1x64x128_S64x128)
          (.dma (sendS j))) (.dma ((cc0_scratch5.slice (Rect.unit (s := S32) (off c) S1.size (inb c hh))).squeeze S_ squeezes_S1_S_).sem) (h1 hh) (h2 hh) (h3 hh)) >>= fun _ => p)
      (fun _ => p)) Q := by
  have hoff' : off = fun d => ![d.val] := funext hoff
  have hoff3' : off3 = fun d => ![d.val, 0, 0] := funext hoff3
  subst hoff' hoff3' hdv
  split
  · rename_i hh
    have hne : j ≠ c := fun e => (hc c).mp hh (by rw [← e])
    show _ ⊢ run c (semWaitWord (credS j) 1#32 >>= fun _ =>
        Prog.lift (.enqueueDma (cS j) (.remote (Dev.tc (j : Dev nD)) (rS c) (.dma (sendS j))) (.dma (recvS c)) (h1 hh) (h2 hh) (h3 hh)) >>= fun _ => p) Q
    simp only [semWaitWord, Prog.lift, Prog.bind_op, Prog.bind_ret]
    have e0 : (seF c js sw j : sProp 𝕄) = iprop(cred (tallyAt (cell 0 c j) () 1) ∗ atPos ER (cell 0 c j) 0 ∅ 0 ∗ atPos ER (cell 1 c j) 0 ∅ 0
        ∗ dutyTok ER (cell 2 j c) 0 () ∗ dutyTok ER (cell 1 c j) 0 ()) := by
      unfold seF; rw [if_neg hne, if_neg (by omega)]
    have e1 : (seF c (js + 1) sw j : sProp 𝕄) = iprop(cred (tallyAt (cell 1 c j) () N) ∗ atPos ER (cell 0 c j) 1 ∅ 0 ∗ atPos ER (cell 1 c j) 0 ∅ 0) := by
      unfold seF; rw [if_neg hne, if_pos (by omega), if_neg (by omega)]
    have hf := fam_step (M := 𝕄) (Φ := seF c js sw) (Φ' := seF c (js + 1) sw) j fun i hi => by
      unfold seF; simp only [lt_succ_of_ne hj hi]
    rw [e0, e1] at hf
    have g0 : (coF m c st js sw j : sProp 𝕄) = cOwn m c j := by
      unfold coF; rw [if_pos (by omega), if_neg (by rintro ⟨h1, -, -⟩; omega)]
    have g1 : (coF m c st (js + 1) sw j : sProp 𝕄) = iprop(emp) := by
      unfold coF; rw [if_pos (by omega), if_pos ⟨by omega, by omega, hne⟩]
    have hg := fam_step (M := 𝕄) (Φ := coF m c st js sw) (Φ' := coF m c st (js + 1) sw) j fun i hi => by
      unfold coF; simp only [lt_succ_of_ne hj hi]
    rw [g0, g1] at hg
    unfold St owesF at h ⊢
    iintro ⟨#Hr, #Hl, ⟨%W, HO⟩, H1, H2, H3, H4, H5, Hx, Ha, Hb, Ho, Hz⟩
    ihave H4' := hf $$ H4
    icases H4' with ⟨⟨Hcr, Hp0, Hp1, Ht2, Ht1⟩, Hback⟩
    iapply (Rounds.wp_wait_rest_token 𝒱₀ ER (Rd m) (c : Thread nD τ) none (sm := .reg (credS j)) (κ := K (c, (0, j)))
        (wpE_semWait_eq 𝒱₀ (c : Thread nD τ) none Set.univ) (Set.mem_univ _) () (O := O c 32 js) (W := W) (R := 0) (m := 0) (T := ∅)
        ((zero_add _).trans (expect_eq m 0 c j hne).symm)) $$ [Hcr HO Hp0]
    · isplitr; · iapply (recs_inv m K 0 c j); iexact Hr
      isplitl [Hcr]; · iexact Hcr
      isplitl [HO]; · iexact HO
      isplitr; · iapply (mayWait_credit c j js); iexact Hl
      iexact Hp0
    iintro ⟨HO, Hp0, -, Hpay⟩
    ihave Hpay' := (show bigSep ((Rd (F := F) m).duties ((c : Thread nD τ), .reg (credS j)) 0 \ ∅) (fun d => (Rd (F := F) m).payload ((c : Thread nD τ), .reg (credS j)) 0 d)
        ⊢ iprop(rAny j c ∗ reached ER (cell 2 j c) 0) from Entails.of_eq (rest_eq m 0 c j hne)) $$ Hpay
    icases Hpay' with ⟨Hslot, #Hrch⟩
    unfold rAny
    icases Hslot with ⟨%fd, Hd⟩
    ihave H3' := hg $$ H3
    icases H3' with ⟨Hown, Hback'⟩
    unfold cOwn owns
    icases Hown with ⟨%fs, %hfs, Hs⟩
    iapply (Rounds.wp_send_pointsTo 𝒱₀ ER (Rd m) (c : Thread nD τ) none (c' := ((j : Dev nD) : Thread nD τ)) (src := cS j) (dst := rS c) (sS := .dma (sendS j)) (sem := .dma (recvS c))
        (κ₁ := K (c, (1, j))) (κ₂ := K (j, (2, c))) (r₁ := 0) (r₂ := 0) (d₁ := ()) (d₂ := ()) (fs := fs) (fd := fd) (q := fullShare)
        (by show () ∈ (Rd m).duties (cell 1 c j) 0; rw [duties_live m 1 _ _ hne]; exact Finset.mem_singleton_self _)
        (by show () ∈ (Rd m).duties (cell 2 j c) 0; rw [duties_live m 2 _ _ hne.symm]; exact Finset.mem_singleton_self _)
        () () N rfl (amount_eq m 1 c j ()) (amount_eq m 2 j c ()) (O c 32 (js + 1))
        (by show O c 32 js = _; unfold O; rw [Osum_step c 2 js N (by omega) (by intro e; exact hne ((Fin.ext hj).trans e)), add_assoc]; subst hj; rfl)
        (W := insert (.reg (credS j), ()) W) ?hp1 ?hp2) $$ [Hs Hd HO Ht1 Ht2]
    case hp1 =>
      refine BIBase.Entails.trans ?_ (Entails.of_eq (payload_eq m 1 c j ()).symm)
      show _ ⊢ owns (c : Thread nD τ) (cS j) fullShare (blk m c j)
      unfold owns
      iintro H
      iexists fs
      isplitr; · ipureintro; exact hfs
      iexact H
    case hp2 =>
      refine BIBase.Entails.trans ?_ (Entails.of_eq (payload_eq m 2 j c ()).symm)
      show _ ⊢ owns ((j : Dev nD) : Thread nD τ) (rS c) fullShare (blk m c j)
      unfold owns
      iintro H
      iexists ((rS c).view.write (Elt F) fd ((cS j).view.read (Elt F) fs) Finset.univ)
      isplitr
      · ipureintro; exact (View.read_write_univ ..).trans hfs
      iexact H
    · isplitr; · iapply (recs_inv m K 1 c j); iexact Hr
      isplitr; · iapply (recs_inv m K 2 j c); iexact Hr
      isplitl [Hs]; · iexact Hs
      isplitl [Hd]; · iexact Hd
      isplitl [HO]; · iexact HO
      isplitl [Ht1]; · iexact Ht1
      isplitr; · iapply (recs_reached m K 1 c j); iexact Hr
      isplitl [Ht2]; · iexact Ht2
      iexact Hrch
    iintro ⟨Hc1, HO⟩
    iapply h
    isplitr; · iexact Hr
    isplitr; · iexact Hl
    isplitl [HO]; · iexists _; iexact HO
    isplitl [H1]; · iexact H1
    isplitl [H2]; · iexact H2
    isplitl [Hback']; · iapply Hback'; iempintro
    isplitl [Hback Hc1 Hp0 Hp1]
    · iapply Hback
      isplitl [Hc1]; · iexact Hc1
      isplitl [Hp0]; · iexact Hp0
      iexact Hp1
    iframe
  · rename_i hh
    have he : j = c := by
      by_contra hne; exact hh ((hc c).mpr fun e => hne (Fin.ext e.symm))
    refine Entails.trans (Entails.of_eq ?_) h
    unfold St owesF
    have e1 : (seF c js sw : Fin 32 → sProp 𝕄) = seF c (js + 1) sw := by
      funext i; unfold seF
      by_cases hi : i = c
      · rw [if_pos hi, if_pos hi]
      · simp only [lt_succ_of_ne hj (fun e => hi (e.trans he))]
    have e2 : (coF m c st js sw : Fin 32 → sProp 𝕄) = coF m c st (js + 1) sw := by
      funext i; unfold coF
      by_cases hi : i = c
      · rw [if_neg (c := i.val < js ∧ ¬ i.val < sw ∧ i ≠ c) (fun h => h.2.2 hi), if_neg (c := i.val < js + 1 ∧ ¬ i.val < sw ∧ i ≠ c) (fun h => h.2.2 hi)]
      · simp only [lt_succ_of_ne hj (fun e => hi (e.trans he))]
    rw [e1, e2, show O c 32 js = O c 32 (js + 1) from by unfold O; rw [Osum_self c 2 js N (by omega) ((Fin.ext hj.symm : (⟨js, by omega⟩ : Fin 32) = j).trans he)]]

/-! ## The device's own block -/

/-- Device `c` copies its own block when its turn `cp` comes. -/
theorem step_copy {Q : α → sProp 𝕄} (j : Fin 32) (hj : j.val = cp := by rfl) (hst : cp < st := by decide)
    {hl : cM.view.LoadsAt (rect3 j).toLoadRect} {hl' : rM.view.LoadsAt (rect3 j).toLoadRect} {f : Vec F S1x64x128 .bf16 → FVec F S1x64x128 .bf16}
    {hx : (rM.access (rect3 j)).Stores Finset.univ} {hm : (Finset.univ : Finset (rect3 j).shape.Idx) = Finset.univ ∨ ∀ a, (rect3 j).stride a = 1}
    {p : Prog (TpuEff nD τ sig (Elt F) Λ₀ .tc) α}
    (h : St m K c cr ws ww st js (cp + 1) sw rc o ⊢ run c p Q) (hf : ∀ v, f v = v := by exact fun v => shapeCast_shapeCast v _ _) :
    St m K c cr ws ww st js cp sw rc o
      ⊢ run c (dite (Scalar.cmpi .ne (Scalar.extui (Scalar.cmpi .eq (v2w c) (BitVec.ofNat 32 j.val)) : BitVec 32) 0#32 = 1#1)
        (fun _ => Prog.lift (.load cM (rect3 j).toLoadRect hl) >>= fun v : Vec F S1x64x128 .bf16 => Prog.lift (.load rM (rect3 j).toLoadRect hl') >>= fun _ =>
          Prog.lift (.store rM (rect3 j) (f v) Finset.univ hx hm) >>= fun _ => p) (fun _ => p)) Q := by
  split
  · rename_i hh
    have he : j = c := Fin.ext ((own_iff c j.val j.isLt).mp hh).symm
    subst he
    simp only [Prog.lift, Prog.bind_op, Prog.bind_ret]
    have e0 : (coF m j st js sw j : sProp 𝕄) = owns (j : Thread nD τ) (cS j) fullShare (shapeCast S64x128 (blkw m j j) flat3) := by
      unfold coF; rw [if_pos (by omega), if_neg (fun h => h.2.2 rfl)]; rfl
    have hg := fam_at (M := 𝕄) (Φ := coF m j st js sw) j
    rw [e0] at hg
    have e1 : (reF m j cp rc j : sProp 𝕄) = iprop(rAny j j ∗ atPos ER (cell 2 j j) 0 ∅ 0) := by
      unfold reF; rw [if_pos rfl, if_neg (by omega)]
    have e2 : (reF m j (cp + 1) rc j : sProp 𝕄) = iprop(owns (j : Thread nD τ) (rS j) fullShare (shapeCast S64x128 (blkw m j j) flat3) ∗ atPos ER (cell 2 j j) 0 ∅ 0) := by
      unfold reF; rw [if_pos rfl, if_pos (by omega)]; rfl
    have hr := fam_step (M := 𝕄) (Φ := reF m j cp rc) (Φ' := reF m j (cp + 1) rc) j fun i hi => by
      unfold reF; simp only [if_neg hi]
    rw [e1, e2] at hr
    unfold St at h ⊢
    iintro ⟨#Hr, #Hl, HO, H1, H2, H3, H4, H5, Hx, Ha, Hb, Ho, Hz⟩
    ihave H3' := hg $$ H3
    icases H3' with ⟨Hj, Hback⟩
    ihave H5' := hr $$ H5
    icases H5' with ⟨⟨Hs, Hp⟩, Hback'⟩
    iapply (wp_load_slot j cM (rect3 j) (fun _ => rfl) squeezes_S1x64x128_S64x128 flat3 wide3 (blkw m j j)) $$ Hj
    iintro Hj
    unfold rAny
    iapply (wp_load_any j rM (rect3 j) (fun _ => rfl) squeezes_S1x64x128_S64x128) $$ Hs
    iintro Hs
    rw [hf]
    iapply (wp_store_slot j rM (rect3 j) (fun _ => rfl) squeezes_S1x64x128_S64x128 flat3 (blkw m j j)) $$ Hs
    iintro Hs
    iapply h
    isplitr; · iexact Hr
    isplitr; · iexact Hl
    isplitl [HO]; · iexact HO
    isplitl [H1]; · iexact H1
    isplitl [H2]; · iexact H2
    isplitl [Hback Hj]; · iapply Hback; iexact Hj
    isplitl [H4]; · iexact H4
    isplitl [Hback' Hs Hp]
    · iapply Hback'
      isplitl [Hs] <;> iassumption
    iframe
  · rename_i hh
    have hne : c ≠ j := fun e => hh ((own_iff c j.val j.isLt).mpr (congrArg Fin.val e))
    refine Entails.trans (Entails.of_eq ?_) h
    unfold St
    have e1 : (reF m c cp rc : Fin 32 → sProp 𝕄) = reF m c (cp + 1) rc := by
      funext i; unfold reF
      by_cases hi : i = c
      · have : i ≠ j := fun e => hne (hi.symm.trans e)
        simp only [lt_succ_of_ne hj this]
      · rw [if_neg hi, if_neg hi]
    rw [e1]

/-! ## Receiving -/

/-- The wait for device `rc`'s block. -/
theorem step_rwait {Q : α → sProp 𝕄} (u : Fin 32) (hu : u.val = rc := by rfl)
    {h1 : Scalar.cmpi .ne (Scalar.extui (Scalar.cmpi .ne (v2w c) (BitVec.ofNat 32 u.val)) : BitVec 32) 0#32 = 1#1 → (cS u).view.WordExact}
    {h2 : Scalar.cmpi .ne (Scalar.extui (Scalar.cmpi .ne (v2w c) (BitVec.ofNat 32 u.val)) : BitVec 32) 0#32 = 1#1 → (rS u).view.WordExact}
    {p : Prog (TpuEff nD τ sig (Elt F) Λ₀ .tc) α}
    (h : St m K c 32 ws ww st 32 cp sw (rc + 1) o ⊢ run c p Q) :
    St m K c 32 ws ww st 32 cp sw rc o
      ⊢ run c (dite (Scalar.cmpi .ne (Scalar.extui (Scalar.cmpi .ne (v2w c) (BitVec.ofNat 32 u.val)) : BitVec 32) 0#32 = 1#1)
        (fun hh => Prog.lift (.waitDma2 (recvS u) (cS u) (rS u) (h1 hh) (h2 hh)) >>= fun _ => p) (fun _ => p)) Q := by
  split
  · rename_i hh
    have hne : u ≠ c := fun e => (other_iff c u.val u.isLt).mp hh (by rw [e])
    simp only [Prog.lift, Prog.bind_op, Prog.bind_ret]
    have e0 : (reF m c cp rc u : sProp 𝕄) = iprop(cred (tallyAt (cell 2 c u) () N) ∗ atPos ER (cell 2 c u) 0 ∅ 0) := by
      unfold reF; rw [if_neg hne, if_neg (by omega)]
    have e1 : (reF m c cp (rc + 1) u : sProp 𝕄) = iprop(rOwn m c u ∗ atPos ER (cell 2 c u) 1 ∅ 0) := by
      unfold reF; rw [if_neg hne, if_pos (by omega)]
    have hr := fam_step (M := 𝕄) (Φ := reF m c cp rc) (Φ' := reF m c cp (rc + 1)) u fun i hi => by
      unfold reF; simp only [lt_succ_of_ne hu hi]
    rw [e0, e1] at hr
    unfold St owesF at h ⊢
    iintro ⟨#Hr, #Hl, ⟨%W, HO⟩, H1, H2, H3, H4, H5, Hx, Ha, Hb, Ho, Hz⟩
    ihave H5' := hr $$ H5
    icases H5' with ⟨⟨Hcr, Hp⟩, Hback⟩
    iapply (Rounds.wp_wait_rest_token 𝒱₀ ER (Rd m) (c : Thread nD τ) none (w := .waitDma2 (recvS u) (cS u) (rS u) (h1 hh) (h2 hh)) (sm := .dma (recvS u)) (κ := K (c, (2, u)))
        (wpE_waitDma2_eq 𝒱₀ (c : Thread nD τ) none Set.univ) (Set.mem_univ _) () (O := O c 32 32) (W := W) (R := 0) (m := 0) (T := ∅)
        ((zero_add _).trans (expect_eq m 2 c u hne).symm)) $$ [Hcr HO Hp]
    · isplitr; · iapply (recs_inv m K 2 c u); iexact Hr
      isplitl [Hcr]; · iexact Hcr
      isplitl [HO]; · iexact HO
      isplitr; · iapply (mayWait_end c (.dma (recvS u))); iexact Hl
      iexact Hp
    iintro ⟨HO, Hp, -, Hpay⟩
    ihave Hpay' := (show bigSep ((Rd (F := F) m).duties ((c : Thread nD τ), .dma (recvS u)) 0 \ ∅) (fun d => (Rd (F := F) m).payload ((c : Thread nD τ), .dma (recvS u)) 0 d)
        ⊢ rOwn m c u from Entails.of_eq (rest_eq m 2 c u hne)) $$ Hpay
    iapply h
    isplitr; · iexact Hr
    isplitr; · iexact Hl
    isplitl [HO]; · iexists _; iexact HO
    isplitl [H1]; · iexact H1
    isplitl [H2]; · iexact H2
    isplitl [H3]; · iexact H3
    isplitl [H4]; · iexact H4
    isplitl [Hback Hpay' Hp]
    · iapply Hback
      isplitl [Hpay']; · iexact Hpay'
      iexact Hp
    iframe
  · rename_i hh
    have he : u = c := by
      by_contra hne; exact hh ((other_iff c u.val u.isLt).mpr fun e => hne (Fin.ext e.symm))
    refine Entails.trans (Entails.of_eq ?_) h
    unfold St
    have e1 : (reF m c cp rc : Fin 32 → sProp 𝕄) = reF m c cp (rc + 1) := by
      funext i; unfold reF
      by_cases hi : i = c
      · rw [if_pos hi, if_pos hi]
      · simp only [lt_succ_of_ne hu (fun e => hi (e.trans he))]
    rw [e1]

/-- Device `u`'s block is read. -/
theorem step_loadr {Q : α → sProp 𝕄} (u : Fin 32) (hu : u.val < rc := by decide) (hp : u.val < cp := by decide)
    {hl : rM.view.LoadsAt (rect3 u).toLoadRect} {p : Vec F S1x64x128 .bf16 → Prog (TpuEff nD τ sig (Elt F) Λ₀ .tc) α}
    (h : St m K c cr ws ww st js cp sw rc o ⊢ run c (p (blkw m u c)) Q) :
    St m K c cr ws ww st js cp sw rc o ⊢ run c (Prog.lift (.load rM (rect3 u).toLoadRect hl) >>= p) Q := by
  simp only [Prog.lift, Prog.bind_op, Prog.bind_ret]
  have e0 : ∃ R : sProp 𝕄, (reF m c cp rc u : sProp 𝕄) = iprop(owns (c : Thread nD τ) (rS u) fullShare (shapeCast S64x128 (blkw m u c) flat3) ∗ R) := by
    unfold reF
    by_cases hc : u = c
    · rw [if_pos hc, if_pos hp]; exact ⟨_, rfl⟩
    · rw [if_neg hc, if_pos hu]; exact ⟨_, rfl⟩
  obtain ⟨R, e0⟩ := e0
  have hf := fam_at (M := 𝕄) (Φ := reF m c cp rc) u
  rw [e0] at hf
  unfold St at h ⊢
  iintro ⟨#Hr, #Hl, HO, H1, H2, H3, H4, H5, Hx, Ha, Hb, Ho, Hz⟩
  ihave H5' := hf $$ H5
  icases H5' with ⟨⟨Hj, HR⟩, Hback⟩
  iapply (wp_load_slot c rM (rect3 u) (fun _ => rfl) squeezes_S1x64x128_S64x128 flat3 wide3 (blkw m u c)) $$ Hj
  iintro Hj
  iapply h
  isplitr; · iexact Hr
  isplitr; · iexact Hl
  isplitl [HO]; · iexact HO
  isplitl [H1]; · iexact H1
  isplitl [H2]; · iexact H2
  isplitl [H3]; · iexact H3
  isplitl [H4]; · iexact H4
  isplitl [Hback Hj HR]
  · iapply Hback
    isplitl [Hj] <;> iassumption
  iframe

/-! ## The sends are over -/

/-- The wait for the end of the send to device `sw`. -/
theorem step_swait {Q : α → sProp 𝕄} (j : Fin 32) (hj : j.val = sw := by rfl) (hst : sw < st := by decide)
    {cond : Dev nD → BitVec 1} {src : cond c = 1#1 → Memref sig .tc .vmem S64x128 .bf16}
    {h1 : ∀ hh, (src hh).view.WordExact} {h2 : cond c = 1#1 → (cS j).view.WordExact} {p : Prog (TpuEff nD τ sig (Elt F) Λ₀ .tc) α}
    (h : St m K c 32 ws ww st 32 cp (sw + 1) rc o ⊢ run c p Q) (hc : ∀ d, cond d = 1#1 ↔ d.val ≠ j.val := by decide +kernel) :
    St m K c 32 ws ww st 32 cp sw rc o
      ⊢ run c (dite (cond c = 1#1) (fun hh => Prog.lift (.waitDma2 (sendS j) (src hh) (cS j) (h1 hh) (h2 hh)) >>= fun _ => p) (fun _ => p)) Q := by
  have hj32 : j.val < 32 := j.isLt
  split
  · rename_i hh
    have hne : j ≠ c := fun e => (hc c).mp hh (by rw [e])
    simp only [Prog.lift, Prog.bind_op, Prog.bind_ret]
    have e0 : (seF c 32 sw j : sProp 𝕄) = iprop(cred (tallyAt (cell 1 c j) () N) ∗ atPos ER (cell 0 c j) 1 ∅ 0 ∗ atPos ER (cell 1 c j) 0 ∅ 0) := by
      unfold seF; rw [if_neg hne, if_pos (by omega), if_neg (by omega)]
    have e1 : (seF c 32 (sw + 1) j : sProp 𝕄) = iprop(atPos ER (cell 0 c j) 1 ∅ 0 ∗ atPos ER (cell 1 c j) 1 ∅ 0) := by
      unfold seF; rw [if_neg hne, if_pos (by omega), if_pos (by omega)]
    have hf := fam_step (M := 𝕄) (Φ := seF c 32 sw) (Φ' := seF c 32 (sw + 1)) j fun i hi => by
      unfold seF; simp only [lt_succ_of_ne hj hi]
    rw [e0, e1] at hf
    have g0 : (coF m c st 32 sw j : sProp 𝕄) = iprop(emp) := by
      unfold coF; rw [if_pos (by omega), if_pos ⟨by omega, by omega, hne⟩]
    have g1 : (coF m c st 32 (sw + 1) j : sProp 𝕄) = cOwn m c j := by
      unfold coF; rw [if_pos (by omega), if_neg (by rintro ⟨-, h1, -⟩; omega)]
    have hg := fam_step (M := 𝕄) (Φ := coF m c st 32 sw) (Φ' := coF m c st 32 (sw + 1)) j fun i hi => by
      unfold coF; simp only [lt_succ_of_ne hj hi]
    rw [g0, g1] at hg
    unfold St owesF at h ⊢
    iintro ⟨#Hr, #Hl, ⟨%W, HO⟩, H1, H2, H3, H4, H5, Hx, Ha, Hb, Ho, Hz⟩
    ihave H4' := hf $$ H4
    icases H4' with ⟨⟨Hcr, Hp0, Hp1⟩, Hback⟩
    ihave H3' := hg $$ H3
    icases H3' with ⟨-, Hback'⟩
    iapply (Rounds.wp_wait_rest_token 𝒱₀ ER (Rd m) (c : Thread nD τ) none (w := .waitDma2 (sendS j) (src hh) (cS j) (h1 hh) (h2 hh)) (sm := .dma (sendS j)) (κ := K (c, (1, j)))
        (wpE_waitDma2_eq 𝒱₀ (c : Thread nD τ) none Set.univ) (Set.mem_univ _) () (O := O c 32 32) (W := W) (R := 0) (m := 0) (T := ∅)
        ((zero_add _).trans (expect_eq m 1 c j hne).symm)) $$ [Hcr HO Hp1]
    · isplitr; · iapply (recs_inv m K 1 c j); iexact Hr
      isplitl [Hcr]; · iexact Hcr
      isplitl [HO]; · iexact HO
      isplitr; · iapply (mayWait_end c (.dma (sendS j))); iexact Hl
      iexact Hp1
    iintro ⟨HO, Hp1, -, Hpay⟩
    ihave Hpay' := (show bigSep ((Rd (F := F) m).duties ((c : Thread nD τ), .dma (sendS j)) 0 \ ∅) (fun d => (Rd (F := F) m).payload ((c : Thread nD τ), .dma (sendS j)) 0 d)
        ⊢ cOwn m c j from Entails.of_eq (rest_eq m 1 c j hne)) $$ Hpay
    iapply h
    isplitr; · iexact Hr
    isplitr; · iexact Hl
    isplitl [HO]; · iexists _; iexact HO
    isplitl [H1]; · iexact H1
    isplitl [H2]; · iexact H2
    isplitl [Hback' Hpay']; · iapply Hback'; iexact Hpay'
    isplitl [Hback Hp0 Hp1]
    · iapply Hback
      isplitl [Hp0]; · iexact Hp0
      iexact Hp1
    iframe
  · rename_i hh
    have he : j = c := by
      by_contra hne; exact hh ((hc c).mpr fun e => hne (Fin.ext e.symm))
    refine Entails.trans (Entails.of_eq ?_) h
    unfold St
    have e1 : (seF c 32 sw : Fin 32 → sProp 𝕄) = seF c 32 (sw + 1) := by
      funext i; unfold seF
      by_cases hi : i = c
      · rw [if_pos hi, if_pos hi]
      · simp only [lt_succ_of_ne hj (fun e => hi (e.trans he))]
    have e2 : (coF m c st 32 sw : Fin 32 → sProp 𝕄) = coF m c st 32 (sw + 1) := by
      funext i; unfold coF
      by_cases hi : i = c
      · rw [if_neg (c := i.val < 32 ∧ ¬ i.val < sw ∧ i ≠ c) (fun h => h.2.2 hi), if_neg (c := i.val < 32 ∧ ¬ i.val < sw + 1 ∧ i ≠ c) (fun h => h.2.2 hi)]
      · simp only [lt_succ_of_ne hj (fun e => hi (e.trans he))]
    rw [e1, e2]

end Cert.Run
-- ==== Proof.Bind.lean ====
module
public import proofs.«01_k».proof.Proof.Exchange
@[expose] public section

/-! # Sequencing

A program followed by another runs by running the first and then the second. -/

noncomputable section
namespace Cert.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
variable {F : FTy → Type} [FloatOps F]
local notation "𝕄" => MT nD τ sig Unit (Elt F) ℕ UU ℕ
variable (m : (ℓ : Loc nD τ sig) → Buf (Elt F) ℓ) (K : KIx → ℕ)
variable {c : Dev nD} {α : Type}

theorem run_bind {Q : α → sProp 𝕄} {β : Type} {P : sProp 𝕄} {p : Prog (TpuEff nD τ sig (Elt F) Λ₀ .tc) β}
    {k : β → Prog (TpuEff nD τ sig (Elt F) Λ₀ .tc) α} (h : P ⊢ run c p (fun x => run c (k x) Q)) : P ⊢ run c (p >>= k) Q := by
  unfold run at *; rw [wp_bind]; exact h

end Cert.Run
-- ==== Proof.PartsA.lean ====
module
public import proofs.«01_k».proof.Proof.Bind
@[expose] public section

/-! # The body up to the first whole chunk

Grants, the first weight copies, and the blocks of chunk 0. Each theorem takes one printed part from its state to the next. -/

set_option maxHeartbeats 2000000
noncomputable section
namespace Cert.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
variable {F : FTy → Type} [FloatOps F]
local notation "𝕄" => MT nD τ sig Unit (Elt F) ℕ UU ℕ
variable (m : (ℓ : Loc nD τ sig) → Buf (Elt F) ℓ) (K : KIx → ℕ)
variable {c : Dev nD} {α : Type}

theorem part1 {Q : α → sProp 𝕄} {h0 h1 h2 h3 h4 h5 h6 h7} {k} (h : St m K c 8 0 0 0 0 0 0 0 0 ⊢ run c (k ⟨c, v2w c⟩) Q) :
    St m K c 0 0 0 0 0 0 0 0 0 ⊢ run c (k0_part1 xM h0 hM h1 aM h2 bM h3 oM h4 wM h5 cM h6 rM h7 cc0_scratch3 cc0_scratch4 cc0_scratch5 cc0_scratch6 >>= k) Q := by
  refine run_bind ?_; rw [k0_part1_eq_skeleton]; unfold k0_part1_skel
  refine step_dev ?_
  refine step_bar m K ?_
  extract_lets -merge
  iterate 8 refine step_credit m K _ (by decide) ?_
  exact step_ret h

theorem part2 {Q : α → sProp 𝕄} {h0 h1 h2 h3 h4 h5 h6 h7} {k} (h : St m K c 18 0 0 0 0 0 0 0 0 ⊢ run c (k ⟨⟩) Q) :
    St m K c 8 0 0 0 0 0 0 0 0 ⊢ run c (k0_part2 xM h0 hM h1 aM h2 bM h3 oM h4 wM h5 cM h6 rM h7 cc0_scratch3 cc0_scratch4 cc0_scratch5 cc0_scratch6 c (v2w c) >>= k) Q := by
  refine run_bind ?_; rw [k0_part2_eq_skeleton]; unfold k0_part2_skel
  extract_lets -merge
  iterate 10 refine step_credit m K _ (by decide) ?_
  exact step_ret h

theorem part3 {Q : α → sProp 𝕄} {h0 h1 h2 h3 h4 h5 h6 h7} {k} (h : St m K c 28 0 0 0 0 0 0 0 0 ⊢ run c (k ⟨⟩) Q) :
    St m K c 18 0 0 0 0 0 0 0 0 ⊢ run c (k0_part3 xM h0 hM h1 aM h2 bM h3 oM h4 wM h5 cM h6 rM h7 cc0_scratch3 cc0_scratch4 cc0_scratch5 cc0_scratch6 c (v2w c) >>= k) Q := by
  refine run_bind ?_; rw [k0_part3_eq_skeleton]; unfold k0_part3_skel
  extract_lets -merge
  iterate 10 refine step_credit m K _ (by decide) ?_
  exact step_ret h

theorem part4 {Q : α → sProp 𝕄} {h0 h1 h2 h3 h4 h5 h6 h7} {k} (h : St m K c 32 2 0 0 0 0 0 0 0 ⊢ run c (k ⟨⟩) Q) :
    St m K c 28 0 0 0 0 0 0 0 0 ⊢ run c (k0_part4 xM h0 hM h1 aM h2 bM h3 oM h4 wM h5 cM h6 rM h7 cc0_scratch3 cc0_scratch4 cc0_scratch5 cc0_scratch6 c (v2w c) >>= k) Q := by
  refine run_bind ?_; rw [k0_part4_eq_skeleton]; unfold k0_part4_skel
  extract_lets -merge
  iterate 4 refine step_credit m K _ (by decide) ?_
  refine step_wstart m K 0 (h := ?_)
  refine step_wstart m K 1 (h := ?_)
  exact step_ret h

theorem part5 {Q : α → sProp 𝕄} {h0 h1 h2 h3 h4 h5 h6 h7} {k} (h : St m K c 32 4 1 1 0 0 0 0 0 ⊢ run c (k ⟨k0_pay1 (aval m c) (bval m c), k0_pay2 (xval m c), chunk m c 0, Scalar.cmpi .ne (v2w c) 0#32⟩) Q) :
    St m K c 32 2 0 0 0 0 0 0 0 ⊢ run c (k0_part5 xM h0 hM h1 aM h2 bM h3 oM h4 wM h5 cM h6 rM h7 cc0_scratch3 cc0_scratch4 cc0_scratch5 cc0_scratch6 (v2w c) >>= k) Q := by
  refine run_bind ?_; rw [k0_part5_eq_skeleton]; unfold k0_part5_skel
  extract_lets -merge
  refine step_wstart m K 2 (h := ?_)
  refine step_loada m K ?_
  refine step_loadb m K ?_
  refine step_loadx m K ?_
  refine step_wwait m K 0 (h := ?_)
  refine step_loadw m K 0 (h := ?_)
  refine step_wstart m K 3 (h := ?_)
  refine step_loadc m K 0 (h := ?_)
  refine step_storec m K 0 (hw := by rfl) (h := ?_)
  exact step_ret h

theorem part6 {Q : α → sProp 𝕄} {h0 h1 h2 h3 h4 h5 h6 h7} {k} (h : St m K c 32 4 1 3 3 3 0 0 0 ⊢ run c (k (k0_pay10 (chunk m c 0))) Q) :
    St m K c 32 4 1 1 0 0 0 0 0 ⊢ run c (k0_part6 xM h0 hM h1 aM h2 bM h3 oM h4 wM h5 cM h6 rM h7 cc0_scratch3 cc0_scratch4 cc0_scratch5 cc0_scratch6 c (v2w c) (chunk m c 0) (Scalar.cmpi .ne (v2w c) 0#32) >>= k) Q := by
  refine run_bind ?_; rw [k0_part6_eq_skeleton]; unfold k0_part6_skel
  extract_lets -merge
  refine step_send m K 0 (h := ?_)
  refine step_copy m K 0 (h := ?_)
  refine step_loadc m K 1 (h := ?_)
  refine step_storec m K 1 (hw := by rfl) (h := ?_)
  refine step_send m K 1 (h := ?_)
  refine step_copy m K 1 (h := ?_)
  refine step_loadc m K 2 (h := ?_)
  refine step_storec m K 2 (hw := by rfl) (h := ?_)
  refine step_send m K 2 (h := ?_)
  refine step_copy m K 2 (h := ?_)
  exact step_ret h

theorem part7 {Q : α → sProp 𝕄} {h0 h1 h2 h3 h4 h5 h6 h7} {k} (h : St m K c 32 5 2 4 4 4 0 0 0 ⊢ run c (k ⟨chunk m c 1, k0_pay14 (k0_pay1 (aval m c) (bval m c)) (k0_pay2 (xval m c)) (wwide m c 1)⟩) Q) :
    St m K c 32 4 1 3 3 3 0 0 0 ⊢ run c (k0_part7 xM h0 hM h1 aM h2 bM h3 oM h4 wM h5 cM h6 rM h7 cc0_scratch3 cc0_scratch4 cc0_scratch5 cc0_scratch6 c (v2w c) (k0_pay1 (aval m c) (bval m c)) (k0_pay2 (xval m c)) (k0_pay10 (chunk m c 0)) >>= k) Q := by
  refine run_bind ?_; rw [k0_part7_eq_skeleton]; unfold k0_part7_skel
  extract_lets -merge
  refine step_loadc m K 3 (h := ?_)
  refine step_storec m K 3 (hw := by rfl) (h := ?_)
  refine step_send m K 3 (h := ?_)
  refine step_copy m K 3 (h := ?_)
  refine step_wwait m K 1 (h := ?_)
  refine step_loadw m K 1 (h := ?_)
  refine step_wnext m K 4 (h := ?_)
  exact step_ret h

end Cert.Run
-- ==== Proof.PartsB.lean ====
module
public import proofs.«01_k».proof.Proof.Bind
@[expose] public section

/-! # The body: chunks 1 to 3

Each theorem takes one printed part from its state to the next. -/

set_option maxHeartbeats 2000000
noncomputable section
namespace Cert.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
variable {F : FTy → Type} [FloatOps F]
local notation "𝕄" => MT nD τ sig Unit (Elt F) ℕ UU ℕ
variable (m : (ℓ : Loc nD τ sig) → Buf (Elt F) ℓ) (K : KIx → ℕ)
variable {c : Dev nD} {α : Type}

theorem part8 {Q : α → sProp 𝕄} {h0 h1 h2 h3 h4 h5 h6 h7} {k} (h : St m K c 32 5 2 7 7 6 0 0 0 ⊢ run c (k ⟨(Scalar.extui (Scalar.cmpi .eq (v2w c) 6#32)), 0#32⟩) Q) :
    St m K c 32 5 2 4 4 4 0 0 0 ⊢ run c (k0_part8 xM h0 hM h1 aM h2 bM h3 oM h4 wM h5 cM h6 rM h7 cc0_scratch3 cc0_scratch4 cc0_scratch5 cc0_scratch6 c (v2w c) (chunk m c 1) (k0_pay14 (k0_pay1 (aval m c) (bval m c)) (k0_pay2 (xval m c)) (wwide m c 1)) >>= k) Q := by
  refine run_bind ?_; rw [k0_part8_eq_skeleton]; unfold k0_part8_skel
  extract_lets -merge
  refine step_loadc m K 4 (h := ?_)
  refine step_storec m K 4 (hw := by rfl) (h := ?_)
  refine step_send m K 4 (h := ?_)
  refine step_copy m K 4 (h := ?_)
  refine step_loadc m K 5 (h := ?_)
  refine step_storec m K 5 (hw := by rfl) (h := ?_)
  refine step_send m K 5 (h := ?_)
  refine step_copy m K 5 (h := ?_)
  refine step_loadc m K 6 (h := ?_)
  refine step_storec m K 6 (hw := by rfl) (h := ?_)
  refine step_send m K 6 (h := ?_)
  exact step_ret h

theorem part9 {Q : α → sProp 𝕄} {h0 h1 h2 h3 h4 h5 h6 h7} {k} (h : St m K c 32 6 3 8 8 8 0 0 0 ⊢ run c (k ⟨k0_pay23 (k0_pay1 (aval m c) (bval m c)) (k0_pay2 (xval m c)) (wwide m c 2), k0_pay24 (k0_pay1 (aval m c) (bval m c)) (k0_pay2 (xval m c)) (wwide m c 2)⟩) Q) :
    St m K c 32 5 2 7 7 6 0 0 0 ⊢ run c (k0_part9 xM h0 hM h1 aM h2 bM h3 oM h4 wM h5 cM h6 rM h7 cc0_scratch3 cc0_scratch4 cc0_scratch5 cc0_scratch6 c (v2w c) (k0_pay1 (aval m c) (bval m c)) (k0_pay2 (xval m c)) (chunk m c 1) (Scalar.extui (Scalar.cmpi .eq (v2w c) 6#32)) 0#32 >>= k) Q := by
  refine run_bind ?_; rw [k0_part9_eq_skeleton]; unfold k0_part9_skel
  extract_lets -merge
  refine step_copy m K 6 (h := ?_)
  refine step_loadc m K 7 (h := ?_)
  refine step_storec m K 7 (hw := by rfl) (h := ?_)
  refine step_send m K 7 (h := ?_)
  refine step_copy m K 7 (h := ?_)
  refine step_wwait m K 2 (h := ?_)
  refine step_loadw m K 2 (h := ?_)
  refine step_wnext m K 5 (h := ?_)
  exact step_ret h

theorem part10 {Q : α → sProp 𝕄} {h0 h1 h2 h3 h4 h5 h6 h7} {k} (h : St m K c 32 6 3 11 10 10 0 0 0 ⊢ run c (k ⟨chunk m c 2, (Scalar.extui (Scalar.cmpi .ne (v2w c) 10#32)), 0#32⟩) Q) :
    St m K c 32 6 3 8 8 8 0 0 0 ⊢ run c (k0_part10 xM h0 hM h1 aM h2 bM h3 oM h4 wM h5 cM h6 rM h7 cc0_scratch3 cc0_scratch4 cc0_scratch5 cc0_scratch6 c (v2w c) (k0_pay23 (k0_pay1 (aval m c) (bval m c)) (k0_pay2 (xval m c)) (wwide m c 2)) (k0_pay24 (k0_pay1 (aval m c) (bval m c)) (k0_pay2 (xval m c)) (wwide m c 2)) >>= k) Q := by
  refine run_bind ?_; rw [k0_part10_eq_skeleton]; unfold k0_part10_skel
  extract_lets -merge
  refine step_loadc m K 8 (h := ?_)
  refine step_storec m K 8 (hw := by rfl) (h := ?_)
  refine step_send m K 8 (h := ?_)
  refine step_copy m K 8 (h := ?_)
  refine step_loadc m K 9 (h := ?_)
  refine step_storec m K 9 (hw := by rfl) (h := ?_)
  refine step_send m K 9 (h := ?_)
  refine step_copy m K 9 (h := ?_)
  refine step_loadc m K 10 (h := ?_)
  refine step_storec m K 10 (hw := by rfl) (h := ?_)
  exact step_ret h

theorem part11 {Q : α → sProp 𝕄} {h0 h1 h2 h3 h4 h5 h6 h7} {k} (h : St m K c 32 6 4 12 12 12 0 0 0 ⊢ run c (k (k0_pay34 (k0_pay2 (xval m c)) (wwide m c 3))) Q) :
    St m K c 32 6 3 11 10 10 0 0 0 ⊢ run c (k0_part11 xM h0 hM h1 aM h2 bM h3 oM h4 wM h5 cM h6 rM h7 cc0_scratch3 cc0_scratch4 cc0_scratch5 cc0_scratch6 c (v2w c) (k0_pay2 (xval m c)) (chunk m c 2) (Scalar.extui (Scalar.cmpi .ne (v2w c) 10#32)) 0#32 >>= k) Q := by
  refine run_bind ?_; rw [k0_part11_eq_skeleton]; unfold k0_part11_skel
  extract_lets -merge
  refine step_send m K 10 (h := ?_)
  refine step_copy m K 10 (h := ?_)
  refine step_loadc m K 11 (h := ?_)
  refine step_storec m K 11 (hw := by rfl) (h := ?_)
  refine step_send m K 11 (h := ?_)
  refine step_copy m K 11 (h := ?_)
  refine step_wwait m K 3 (h := ?_)
  refine step_loadw m K 3 (h := ?_)
  exact step_ret h

theorem part12 {Q : α → sProp 𝕄} {h0 h1 h2 h3 h4 h5 h6 h7} {k} (h : St m K c 32 7 4 15 14 14 0 0 0 ⊢ run c (k (chunk m c 3)) Q) :
    St m K c 32 6 4 12 12 12 0 0 0 ⊢ run c (k0_part12 xM h0 hM h1 aM h2 bM h3 oM h4 wM h5 cM h6 rM h7 cc0_scratch3 cc0_scratch4 cc0_scratch5 cc0_scratch6 c (v2w c) (k0_pay1 (aval m c) (bval m c)) (k0_pay34 (k0_pay2 (xval m c)) (wwide m c 3)) >>= k) Q := by
  refine run_bind ?_; rw [k0_part12_eq_skeleton]; unfold k0_part12_skel
  extract_lets -merge
  refine step_wnext m K 6 (h := ?_)
  refine step_loadc m K 12 (h := ?_)
  refine step_storec m K 12 (hw := by rfl) (h := ?_)
  refine step_send m K 12 (h := ?_)
  refine step_copy m K 12 (h := ?_)
  refine step_loadc m K 13 (h := ?_)
  refine step_storec m K 13 (hw := by rfl) (h := ?_)
  refine step_send m K 13 (h := ?_)
  refine step_copy m K 13 (h := ?_)
  refine step_loadc m K 14 (h := ?_)
  refine step_storec m K 14 (hw := by rfl) (h := ?_)
  exact step_ret h

theorem part13 {Q : α → sProp 𝕄} {h0 h1 h2 h3 h4 h5 h6 h7} {k} (h : St m K c 32 7 5 16 16 16 0 0 0 ⊢ run c (k (k0_pay44 (k0_pay2 (xval m c)) (wwide m c 4))) Q) :
    St m K c 32 7 4 15 14 14 0 0 0 ⊢ run c (k0_part13 xM h0 hM h1 aM h2 bM h3 oM h4 wM h5 cM h6 rM h7 cc0_scratch3 cc0_scratch4 cc0_scratch5 cc0_scratch6 c (v2w c) (k0_pay2 (xval m c)) (chunk m c 3) >>= k) Q := by
  refine run_bind ?_; rw [k0_part13_eq_skeleton]; unfold k0_part13_skel
  extract_lets -merge
  refine step_send m K 14 (h := ?_)
  refine step_copy m K 14 (h := ?_)
  refine step_loadc m K 15 (h := ?_)
  refine step_storec m K 15 (hw := by rfl) (h := ?_)
  refine step_send m K 15 (h := ?_)
  refine step_copy m K 15 (h := ?_)
  refine step_wwait m K 4 (h := ?_)
  refine step_loadw m K 4 (h := ?_)
  exact step_ret h

end Cert.Run
-- ==== Proof.PartsC.lean ====
module
public import proofs.«01_k».proof.Proof.Bind
@[expose] public section

/-! # The body: chunks 4 to 7

Each theorem takes one printed part from its state to the next. -/

set_option maxHeartbeats 2000000
noncomputable section
namespace Cert.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
variable {F : FTy → Type} [FloatOps F]
local notation "𝕄" => MT nD τ sig Unit (Elt F) ℕ UU ℕ
variable (m : (ℓ : Loc nD τ sig) → Buf (Elt F) ℓ) (K : KIx → ℕ)
variable {c : Dev nD} {α : Type}

theorem part14 {Q : α → sProp 𝕄} {h0 h1 h2 h3 h4 h5 h6 h7} {k} (h : St m K c 32 8 5 18 18 18 0 0 0 ⊢ run c (k ⟨chunk m c 4, k0_pay50 (k0_pay1 (aval m c) (bval m c)) (k0_pay44 (k0_pay2 (xval m c)) (wwide m c 4))⟩) Q) :
    St m K c 32 7 5 16 16 16 0 0 0 ⊢ run c (k0_part14 xM h0 hM h1 aM h2 bM h3 oM h4 wM h5 cM h6 rM h7 cc0_scratch3 cc0_scratch4 cc0_scratch5 cc0_scratch6 c (v2w c) (k0_pay1 (aval m c) (bval m c)) (k0_pay44 (k0_pay2 (xval m c)) (wwide m c 4)) >>= k) Q := by
  refine run_bind ?_; rw [k0_part14_eq_skeleton]; unfold k0_part14_skel
  extract_lets -merge
  refine step_wnext m K 7 (h := ?_)
  refine step_loadc m K 16 (h := ?_)
  refine step_storec m K 16 (hw := by rfl) (h := ?_)
  refine step_send m K 16 (h := ?_)
  refine step_copy m K 16 (h := ?_)
  refine step_loadc m K 17 (h := ?_)
  refine step_storec m K 17 (hw := by rfl) (h := ?_)
  refine step_send m K 17 (h := ?_)
  refine step_copy m K 17 (h := ?_)
  exact step_ret h

theorem part15 {Q : α → sProp 𝕄} {h0 h1 h2 h3 h4 h5 h6 h7} {k} (h : St m K c 32 8 6 20 20 20 0 0 0 ⊢ run c (k (k0_pay55 (wwide m c 5))) Q) :
    St m K c 32 8 5 18 18 18 0 0 0 ⊢ run c (k0_part15 xM h0 hM h1 aM h2 bM h3 oM h4 wM h5 cM h6 rM h7 cc0_scratch3 cc0_scratch4 cc0_scratch5 cc0_scratch6 c (v2w c) (chunk m c 4) (k0_pay50 (k0_pay1 (aval m c) (bval m c)) (k0_pay44 (k0_pay2 (xval m c)) (wwide m c 4))) >>= k) Q := by
  refine run_bind ?_; rw [k0_part15_eq_skeleton]; unfold k0_part15_skel
  extract_lets -merge
  refine step_loadc m K 18 (h := ?_)
  refine step_storec m K 18 (hw := by rfl) (h := ?_)
  refine step_send m K 18 (h := ?_)
  refine step_copy m K 18 (h := ?_)
  refine step_loadc m K 19 (h := ?_)
  refine step_storec m K 19 (hw := by rfl) (h := ?_)
  refine step_send m K 19 (h := ?_)
  refine step_copy m K 19 (h := ?_)
  refine step_wwait m K 5 (h := ?_)
  refine step_loadw m K 5 (h := ?_)
  exact step_ret h

theorem part16 {Q : α → sProp 𝕄} {h0 h1 h2 h3 h4 h5 h6 h7} {k} (h : St m K c 32 8 6 23 22 22 0 0 0 ⊢ run c (k ⟨chunk m c 5, 22#32⟩) Q) :
    St m K c 32 8 6 20 20 20 0 0 0 ⊢ run c (k0_part16 xM h0 hM h1 aM h2 bM h3 oM h4 wM h5 cM h6 rM h7 cc0_scratch3 cc0_scratch4 cc0_scratch5 cc0_scratch6 c (v2w c) (k0_pay1 (aval m c) (bval m c)) (k0_pay2 (xval m c)) (k0_pay55 (wwide m c 5)) >>= k) Q := by
  refine run_bind ?_; rw [k0_part16_eq_skeleton]; unfold k0_part16_skel
  extract_lets -merge
  refine step_loadc m K 20 (h := ?_)
  refine step_storec m K 20 (hw := by rfl) (h := ?_)
  refine step_send m K 20 (h := ?_)
  refine step_copy m K 20 (h := ?_)
  refine step_loadc m K 21 (h := ?_)
  refine step_storec m K 21 (hw := by rfl) (h := ?_)
  refine step_send m K 21 (h := ?_)
  refine step_copy m K 21 (h := ?_)
  refine step_loadc m K 22 (h := ?_)
  refine step_storec m K 22 (hw := by rfl) (h := ?_)
  exact step_ret h

theorem part17 {Q : α → sProp 𝕄} {h0 h1 h2 h3 h4 h5 h6 h7} {k} (h : St m K c 32 8 7 24 24 24 0 0 0 ⊢ run c (k (chunk m c 6)) Q) :
    St m K c 32 8 6 23 22 22 0 0 0 ⊢ run c (k0_part17 xM h0 hM h1 aM h2 bM h3 oM h4 wM h5 cM h6 rM h7 cc0_scratch3 cc0_scratch4 cc0_scratch5 cc0_scratch6 c (v2w c) (k0_pay1 (aval m c) (bval m c)) (k0_pay2 (xval m c)) (chunk m c 5) 22#32 >>= k) Q := by
  refine run_bind ?_; rw [k0_part17_eq_skeleton]; unfold k0_part17_skel
  extract_lets -merge
  refine step_send m K 22 (h := ?_)
  refine step_copy m K 22 (h := ?_)
  refine step_loadc m K 23 (h := ?_)
  refine step_storec m K 23 (hw := by rfl) (h := ?_)
  refine step_send m K 23 (h := ?_)
  refine step_copy m K 23 (h := ?_)
  refine step_wwait m K 6 (h := ?_)
  refine step_loadw m K 6 (h := ?_)
  exact step_ret h

theorem part18 {Q : α → sProp 𝕄} {h0 h1 h2 h3 h4 h5 h6 h7} {k} (h : St m K c 32 8 7 27 27 26 0 0 0 ⊢ run c (k ⟨⟩) Q) :
    St m K c 32 8 7 24 24 24 0 0 0 ⊢ run c (k0_part18 xM h0 hM h1 aM h2 bM h3 oM h4 wM h5 cM h6 rM h7 cc0_scratch3 cc0_scratch4 cc0_scratch5 cc0_scratch6 c (v2w c) (chunk m c 6) >>= k) Q := by
  refine run_bind ?_; rw [k0_part18_eq_skeleton]; unfold k0_part18_skel
  extract_lets -merge
  refine step_loadc m K 24 (h := ?_)
  refine step_storec m K 24 (hw := by rfl) (h := ?_)
  refine step_send m K 24 (h := ?_)
  refine step_copy m K 24 (h := ?_)
  refine step_loadc m K 25 (h := ?_)
  refine step_storec m K 25 (hw := by rfl) (h := ?_)
  refine step_send m K 25 (h := ?_)
  refine step_copy m K 25 (h := ?_)
  refine step_loadc m K 26 (h := ?_)
  refine step_storec m K 26 (hw := by rfl) (h := ?_)
  refine step_send m K 26 (h := ?_)
  exact step_ret h

theorem part19 {Q : α → sProp 𝕄} {h0 h1 h2 h3 h4 h5 h6 h7} {k} (h : St m K c 32 8 8 28 28 28 0 0 0 ⊢ run c (k ⟨chunk m c 7, blkw m c 28⟩) Q) :
    St m K c 32 8 7 27 27 26 0 0 0 ⊢ run c (k0_part19 xM h0 hM h1 aM h2 bM h3 oM h4 wM h5 cM h6 rM h7 cc0_scratch3 cc0_scratch4 cc0_scratch5 cc0_scratch6 c (v2w c) (k0_pay1 (aval m c) (bval m c)) (k0_pay2 (xval m c)) (chunk m c 6) >>= k) Q := by
  refine run_bind ?_; rw [k0_part19_eq_skeleton]; unfold k0_part19_skel
  extract_lets -merge
  refine step_copy m K 26 (h := ?_)
  refine step_loadc m K 27 (h := ?_)
  refine step_storec m K 27 (hw := by rfl) (h := ?_)
  refine step_send m K 27 (h := ?_)
  refine step_copy m K 27 (h := ?_)
  refine step_wwait m K 7 (h := ?_)
  refine step_loadw m K 7 (h := ?_)
  refine step_loadc m K 28 (h := ?_)
  exact step_ret h

theorem part20 {Q : α → sProp 𝕄} {h0 h1 h2 h3 h4 h5 h6 h7} {k} (h : St m K c 32 8 8 31 31 31 0 0 0 ⊢ run c (k (k0_pay81 (chunk m c 7))) Q) :
    St m K c 32 8 8 28 28 28 0 0 0 ⊢ run c (k0_part20 xM h0 hM h1 aM h2 bM h3 oM h4 wM h5 cM h6 rM h7 cc0_scratch3 cc0_scratch4 cc0_scratch5 cc0_scratch6 c (v2w c) (chunk m c 7) (blkw m c 28) >>= k) Q := by
  refine run_bind ?_; rw [k0_part20_eq_skeleton]; unfold k0_part20_skel
  extract_lets -merge
  refine step_storec m K 28 (hw := by rfl) (h := ?_)
  refine step_send m K 28 (h := ?_)
  refine step_copy m K 28 (h := ?_)
  refine step_loadc m K 29 (h := ?_)
  refine step_storec m K 29 (hw := by rfl) (h := ?_)
  refine step_send m K 29 (h := ?_)
  refine step_copy m K 29 (h := ?_)
  refine step_loadc m K 30 (h := ?_)
  refine step_storec m K 30 (hw := by rfl) (h := ?_)
  refine step_send m K 30 (h := ?_)
  refine step_copy m K 30 (h := ?_)
  exact step_ret h

end Cert.Run
-- ==== Proof.PartsD.lean ====
module
public import proofs.«01_k».proof.Proof.Bind
@[expose] public section

/-! # The body: receipts, result, and waits for the sends

Each theorem takes one printed part from its state to the next. -/

set_option maxHeartbeats 2000000
noncomputable section
namespace Cert.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
variable {F : FTy → Type} [FloatOps F]
local notation "𝕄" => MT nD τ sig Unit (Elt F) ℕ UU ℕ
variable (m : (ℓ : Loc nD τ sig) → Buf (Elt F) ℓ) (K : KIx → ℕ)
variable {c : Dev nD} {α : Type}

theorem part21 {Q : α → sProp 𝕄} {h0 h1 h2 h3 h4 h5 h6 h7} {k} (h : St m K c 32 8 8 32 32 32 0 2 2 ⊢ run c (k (Scalar.cmpi .ne (Scalar.extui (Scalar.cmpi .ne (v2w c) 2#32)) 0#32)) Q) :
    St m K c 32 8 8 31 31 31 0 0 0 ⊢ run c (k0_part21 xM h0 hM h1 aM h2 bM h3 oM h4 wM h5 cM h6 rM h7 cc0_scratch3 cc0_scratch4 cc0_scratch5 cc0_scratch6 c (v2w c) (k0_pay81 (chunk m c 7)) >>= k) Q := by
  refine run_bind ?_; rw [k0_part21_eq_skeleton]; unfold k0_part21_skel
  extract_lets -merge
  refine step_loadc m K 31 (h := ?_)
  refine step_storec m K 31 (hw := by rfl) (h := ?_)
  refine step_send m K 31 (h := ?_)
  refine step_copy m K 31 (h := ?_)
  refine step_rwait m K 0 (h := ?_)
  refine step_loadr m K 0 (h := ?_)
  refine step_loado m K 0 (h := ?_)
  refine step_storeo m K 0 (hw := by rfl) (h := ?_)
  refine step_rwait m K 1 (h := ?_)
  refine step_loadr m K 1 (h := ?_)
  refine step_loado m K 1 (h := ?_)
  refine step_storeo m K 1 (hw := by rfl) (h := ?_)
  exact step_ret h

theorem part22 {Q : α → sProp 𝕄} {h0 h1 h2 h3 h4 h5 h6 h7} {k} (h : St m K c 32 8 8 32 32 32 0 6 5 ⊢ run c (k (outw m c 5)) Q) :
    St m K c 32 8 8 32 32 32 0 2 2 ⊢ run c (k0_part22 xM h0 hM h1 aM h2 bM h3 oM h4 wM h5 cM h6 rM h7 cc0_scratch3 cc0_scratch4 cc0_scratch5 cc0_scratch6 (v2w c) (Scalar.cmpi .ne (Scalar.extui (Scalar.cmpi .ne (v2w c) 2#32)) 0#32) >>= k) Q := by
  refine run_bind ?_; rw [k0_part22_eq_skeleton]; unfold k0_part22_skel
  extract_lets -merge
  refine step_rwait m K 2 (h := ?_)
  refine step_loadr m K 2 (h := ?_)
  refine step_loado m K 2 (h := ?_)
  refine step_storeo m K 2 (hw := by rfl) (h := ?_)
  refine step_rwait m K 3 (h := ?_)
  refine step_loadr m K 3 (h := ?_)
  refine step_loado m K 3 (h := ?_)
  refine step_storeo m K 3 (hw := by rfl) (h := ?_)
  refine step_rwait m K 4 (h := ?_)
  refine step_loadr m K 4 (h := ?_)
  refine step_loado m K 4 (h := ?_)
  refine step_storeo m K 4 (hw := by rfl) (h := ?_)
  refine step_rwait m K 5 (h := ?_)
  refine step_loadr m K 5 (h := ?_)
  exact step_ret h

theorem part23 {Q : α → sProp 𝕄} {h0 h1 h2 h3 h4 h5 h6 h7} {k} (h : St m K c 32 8 8 32 32 32 0 10 9 ⊢ run c (k ⟨⟩) Q) :
    St m K c 32 8 8 32 32 32 0 6 5 ⊢ run c (k0_part23 xM h0 hM h1 aM h2 bM h3 oM h4 wM h5 cM h6 rM h7 cc0_scratch3 cc0_scratch4 cc0_scratch5 cc0_scratch6 (v2w c) (outw m c 5) >>= k) Q := by
  refine run_bind ?_; rw [k0_part23_eq_skeleton]; unfold k0_part23_skel
  extract_lets -merge
  refine step_loado m K 5 (h := ?_)
  refine step_storeo m K 5 (hw := by rfl) (h := ?_)
  refine step_rwait m K 6 (h := ?_)
  refine step_loadr m K 6 (h := ?_)
  refine step_loado m K 6 (h := ?_)
  refine step_storeo m K 6 (hw := by rfl) (h := ?_)
  refine step_rwait m K 7 (h := ?_)
  refine step_loadr m K 7 (h := ?_)
  refine step_loado m K 7 (h := ?_)
  refine step_storeo m K 7 (hw := by rfl) (h := ?_)
  refine step_rwait m K 8 (h := ?_)
  refine step_loadr m K 8 (h := ?_)
  refine step_loado m K 8 (h := ?_)
  refine step_storeo m K 8 (hw := by rfl) (h := ?_)
  refine step_rwait m K 9 (h := ?_)
  exact step_ret h

theorem part24 {Q : α → sProp 𝕄} {h0 h1 h2 h3 h4 h5 h6 h7} {k} (h : St m K c 32 8 8 32 32 32 0 13 12 ⊢ run c (k (outw m c 12)) Q) :
    St m K c 32 8 8 32 32 32 0 10 9 ⊢ run c (k0_part24 xM h0 hM h1 aM h2 bM h3 oM h4 wM h5 cM h6 rM h7 cc0_scratch3 cc0_scratch4 cc0_scratch5 cc0_scratch6 (v2w c) >>= k) Q := by
  refine run_bind ?_; rw [k0_part24_eq_skeleton]; unfold k0_part24_skel
  extract_lets -merge
  refine step_loadr m K 9 (h := ?_)
  refine step_loado m K 9 (h := ?_)
  refine step_storeo m K 9 (hw := by rfl) (h := ?_)
  refine step_rwait m K 10 (h := ?_)
  refine step_loadr m K 10 (h := ?_)
  refine step_loado m K 10 (h := ?_)
  refine step_storeo m K 10 (hw := by rfl) (h := ?_)
  refine step_rwait m K 11 (h := ?_)
  refine step_loadr m K 11 (h := ?_)
  refine step_loado m K 11 (h := ?_)
  refine step_storeo m K 11 (hw := by rfl) (h := ?_)
  refine step_rwait m K 12 (h := ?_)
  refine step_loadr m K 12 (h := ?_)
  exact step_ret h

theorem part25 {Q : α → sProp 𝕄} {h0 h1 h2 h3 h4 h5 h6 h7} {k} (h : St m K c 32 8 8 32 32 32 0 17 16 ⊢ run c (k ⟨⟩) Q) :
    St m K c 32 8 8 32 32 32 0 13 12 ⊢ run c (k0_part25 xM h0 hM h1 aM h2 bM h3 oM h4 wM h5 cM h6 rM h7 cc0_scratch3 cc0_scratch4 cc0_scratch5 cc0_scratch6 (v2w c) (outw m c 12) >>= k) Q := by
  refine run_bind ?_; rw [k0_part25_eq_skeleton]; unfold k0_part25_skel
  extract_lets -merge
  refine step_loado m K 12 (h := ?_)
  refine step_storeo m K 12 (hw := by rfl) (h := ?_)
  refine step_rwait m K 13 (h := ?_)
  refine step_loadr m K 13 (h := ?_)
  refine step_loado m K 13 (h := ?_)
  refine step_storeo m K 13 (hw := by rfl) (h := ?_)
  refine step_rwait m K 14 (h := ?_)
  refine step_loadr m K 14 (h := ?_)
  refine step_loado m K 14 (h := ?_)
  refine step_storeo m K 14 (hw := by rfl) (h := ?_)
  refine step_rwait m K 15 (h := ?_)
  refine step_loadr m K 15 (h := ?_)
  refine step_loado m K 15 (h := ?_)
  refine step_storeo m K 15 (hw := by rfl) (h := ?_)
  refine step_rwait m K 16 (h := ?_)
  exact step_ret h

theorem part26 {Q : α → sProp 𝕄} {h0 h1 h2 h3 h4 h5 h6 h7} {k} (h : St m K c 32 8 8 32 32 32 0 20 19 ⊢ run c (k (outw m c 19)) Q) :
    St m K c 32 8 8 32 32 32 0 17 16 ⊢ run c (k0_part26 xM h0 hM h1 aM h2 bM h3 oM h4 wM h5 cM h6 rM h7 cc0_scratch3 cc0_scratch4 cc0_scratch5 cc0_scratch6 (v2w c) >>= k) Q := by
  refine run_bind ?_; rw [k0_part26_eq_skeleton]; unfold k0_part26_skel
  extract_lets -merge
  refine step_loadr m K 16 (h := ?_)
  refine step_loado m K 16 (h := ?_)
  refine step_storeo m K 16 (hw := by rfl) (h := ?_)
  refine step_rwait m K 17 (h := ?_)
  refine step_loadr m K 17 (h := ?_)
  refine step_loado m K 17 (h := ?_)
  refine step_storeo m K 17 (hw := by rfl) (h := ?_)
  refine step_rwait m K 18 (h := ?_)
  refine step_loadr m K 18 (h := ?_)
  refine step_loado m K 18 (h := ?_)
  refine step_storeo m K 18 (hw := by rfl) (h := ?_)
  refine step_rwait m K 19 (h := ?_)
  refine step_loadr m K 19 (h := ?_)
  refine step_loado m K 19 (h := ?_)
  exact step_ret h

theorem part27 {Q : α → sProp 𝕄} {h0 h1 h2 h3 h4 h5 h6 h7} {k} (h : St m K c 32 8 8 32 32 32 0 24 23 ⊢ run c (k ⟨⟩) Q) :
    St m K c 32 8 8 32 32 32 0 20 19 ⊢ run c (k0_part27 xM h0 hM h1 aM h2 bM h3 oM h4 wM h5 cM h6 rM h7 cc0_scratch3 cc0_scratch4 cc0_scratch5 cc0_scratch6 (v2w c) (outw m c 19) >>= k) Q := by
  refine run_bind ?_; rw [k0_part27_eq_skeleton]; unfold k0_part27_skel
  extract_lets -merge
  refine step_storeo m K 19 (hw := by rfl) (h := ?_)
  refine step_rwait m K 20 (h := ?_)
  refine step_loadr m K 20 (h := ?_)
  refine step_loado m K 20 (h := ?_)
  refine step_storeo m K 20 (hw := by rfl) (h := ?_)
  refine step_rwait m K 21 (h := ?_)
  refine step_loadr m K 21 (h := ?_)
  refine step_loado m K 21 (h := ?_)
  refine step_storeo m K 21 (hw := by rfl) (h := ?_)
  refine step_rwait m K 22 (h := ?_)
  refine step_loadr m K 22 (h := ?_)
  refine step_loado m K 22 (h := ?_)
  refine step_storeo m K 22 (hw := by rfl) (h := ?_)
  refine step_rwait m K 23 (h := ?_)
  exact step_ret h

theorem part28 {Q : α → sProp 𝕄} {h0 h1 h2 h3 h4 h5 h6 h7} {k} (h : St m K c 32 8 8 32 32 32 0 27 27 ⊢ run c (k ⟨⟩) Q) :
    St m K c 32 8 8 32 32 32 0 24 23 ⊢ run c (k0_part28 xM h0 hM h1 aM h2 bM h3 oM h4 wM h5 cM h6 rM h7 cc0_scratch3 cc0_scratch4 cc0_scratch5 cc0_scratch6 (v2w c) >>= k) Q := by
  refine run_bind ?_; rw [k0_part28_eq_skeleton]; unfold k0_part28_skel
  extract_lets -merge
  refine step_loadr m K 23 (h := ?_)
  refine step_loado m K 23 (h := ?_)
  refine step_storeo m K 23 (hw := by rfl) (h := ?_)
  refine step_rwait m K 24 (h := ?_)
  refine step_loadr m K 24 (h := ?_)
  refine step_loado m K 24 (h := ?_)
  refine step_storeo m K 24 (hw := by rfl) (h := ?_)
  refine step_rwait m K 25 (h := ?_)
  refine step_loadr m K 25 (h := ?_)
  refine step_loado m K 25 (h := ?_)
  refine step_storeo m K 25 (hw := by rfl) (h := ?_)
  refine step_rwait m K 26 (h := ?_)
  refine step_loadr m K 26 (h := ?_)
  refine step_loado m K 26 (h := ?_)
  refine step_storeo m K 26 (hw := by rfl) (h := ?_)
  exact step_ret h

theorem part29 {Q : α → sProp 𝕄} {h0 h1 h2 h3 h4 h5 h6 h7} {k} (h : St m K c 32 8 8 32 32 32 0 31 30 ⊢ run c (k ⟨⟩) Q) :
    St m K c 32 8 8 32 32 32 0 27 27 ⊢ run c (k0_part29 xM h0 hM h1 aM h2 bM h3 oM h4 wM h5 cM h6 rM h7 cc0_scratch3 cc0_scratch4 cc0_scratch5 cc0_scratch6 (v2w c) >>= k) Q := by
  refine run_bind ?_; rw [k0_part29_eq_skeleton]; unfold k0_part29_skel
  extract_lets -merge
  refine step_rwait m K 27 (h := ?_)
  refine step_loadr m K 27 (h := ?_)
  refine step_loado m K 27 (h := ?_)
  refine step_storeo m K 27 (hw := by rfl) (h := ?_)
  refine step_rwait m K 28 (h := ?_)
  refine step_loadr m K 28 (h := ?_)
  refine step_loado m K 28 (h := ?_)
  refine step_storeo m K 28 (hw := by rfl) (h := ?_)
  refine step_rwait m K 29 (h := ?_)
  refine step_loadr m K 29 (h := ?_)
  refine step_loado m K 29 (h := ?_)
  refine step_storeo m K 29 (hw := by rfl) (h := ?_)
  refine step_rwait m K 30 (h := ?_)
  exact step_ret h

theorem part30 {Q : α → sProp 𝕄} {h0 h1 h2 h3 h4 h5 h6 h7} {k} (h : St m K c 32 8 8 32 32 32 4 32 32 ⊢ run c (k (Scalar.extui (Scalar.cmpi .ne (v2w c) 4#32))) Q) :
    St m K c 32 8 8 32 32 32 0 31 30 ⊢ run c (k0_part30 xM h0 hM h1 aM h2 bM h3 oM h4 wM h5 cM h6 rM h7 cc0_scratch3 cc0_scratch4 cc0_scratch5 cc0_scratch6 c (v2w c) >>= k) Q := by
  refine run_bind ?_; rw [k0_part30_eq_skeleton]; unfold k0_part30_skel
  extract_lets -merge
  refine step_loadr m K 30 (h := ?_)
  refine step_loado m K 30 (h := ?_)
  refine step_storeo m K 30 (hw := by rfl) (h := ?_)
  refine step_rwait m K 31 (h := ?_)
  refine step_loadr m K 31 (h := ?_)
  refine step_loado m K 31 (h := ?_)
  refine step_storeo m K 31 (hw := by rfl) (h := ?_)
  refine step_swait m K 0 (h := ?_)
  refine step_swait m K 1 (h := ?_)
  refine step_swait m K 2 (h := ?_)
  refine step_swait m K 3 (h := ?_)
  exact step_ret h

theorem part31 {Q : α → sProp 𝕄} {h0 h1 h2 h3 h4 h5 h6 h7} {k} (h : St m K c 32 8 8 32 32 32 11 32 32 ⊢ run c (k ⟨⟩) Q) :
    St m K c 32 8 8 32 32 32 4 32 32 ⊢ run c (k0_part31 xM h0 hM h1 aM h2 bM h3 oM h4 wM h5 cM h6 rM h7 cc0_scratch3 cc0_scratch4 cc0_scratch5 cc0_scratch6 c (v2w c) (Scalar.extui (Scalar.cmpi .ne (v2w c) 4#32)) >>= k) Q := by
  refine run_bind ?_; rw [k0_part31_eq_skeleton]; unfold k0_part31_skel
  extract_lets -merge
  refine step_swait m K 4 (h := ?_)
  refine step_swait m K 5 (h := ?_)
  refine step_swait m K 6 (h := ?_)
  refine step_swait m K 7 (h := ?_)
  refine step_swait m K 8 (h := ?_)
  refine step_swait m K 9 (h := ?_)
  refine step_swait m K 10 (h := ?_)
  exact step_ret h

theorem part32 {Q : α → sProp 𝕄} {h0 h1 h2 h3 h4 h5 h6 h7} {k} (h : St m K c 32 8 8 32 32 32 19 32 32 ⊢ run c (k (Scalar.extui (Scalar.cmpi .ne (v2w c) 19#32))) Q) :
    St m K c 32 8 8 32 32 32 11 32 32 ⊢ run c (k0_part32 xM h0 hM h1 aM h2 bM h3 oM h4 wM h5 cM h6 rM h7 cc0_scratch3 cc0_scratch4 cc0_scratch5 cc0_scratch6 c (v2w c) >>= k) Q := by
  refine run_bind ?_; rw [k0_part32_eq_skeleton]; unfold k0_part32_skel
  extract_lets -merge
  refine step_swait m K 11 (h := ?_)
  refine step_swait m K 12 (h := ?_)
  refine step_swait m K 13 (h := ?_)
  refine step_swait m K 14 (h := ?_)
  refine step_swait m K 15 (h := ?_)
  refine step_swait m K 16 (h := ?_)
  refine step_swait m K 17 (h := ?_)
  refine step_swait m K 18 (h := ?_)
  exact step_ret h

theorem part33 {Q : α → sProp 𝕄} {h0 h1 h2 h3 h4 h5 h6 h7} {k} (h : St m K c 32 8 8 32 32 32 26 32 32 ⊢ run c (k ⟨⟩) Q) :
    St m K c 32 8 8 32 32 32 19 32 32 ⊢ run c (k0_part33 xM h0 hM h1 aM h2 bM h3 oM h4 wM h5 cM h6 rM h7 cc0_scratch3 cc0_scratch4 cc0_scratch5 cc0_scratch6 c (v2w c) (Scalar.extui (Scalar.cmpi .ne (v2w c) 19#32)) >>= k) Q := by
  refine run_bind ?_; rw [k0_part33_eq_skeleton]; unfold k0_part33_skel
  extract_lets -merge
  refine step_swait m K 19 (h := ?_)
  refine step_swait m K 20 (h := ?_)
  refine step_swait m K 21 (h := ?_)
  refine step_swait m K 22 (h := ?_)
  refine step_swait m K 23 (h := ?_)
  refine step_swait m K 24 (h := ?_)
  refine step_swait m K 25 (h := ?_)
  exact step_ret h

end Cert.Run
-- ==== Proof.Body.lean ====
module
public import proofs.«01_k».proof.Proof.PartsA
public import proofs.«01_k».proof.Proof.PartsB
public import proofs.«01_k».proof.Proof.PartsC
public import proofs.«01_k».proof.Proof.PartsD
@[expose] public section

/-! # The whole body

The parts in their order, then the last waits. -/

set_option maxHeartbeats 2000000
noncomputable section
namespace Cert.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
variable {F : FTy → Type} [FloatOps F]
local notation "𝕄" => MT nD τ sig Unit (Elt F) ℕ UU ℕ
variable (m : (ℓ : Loc nD τ sig) → Buf (Elt F) ℓ) (K : KIx → ℕ)
variable {c : Dev nD} {α : Type}

theorem part34 {Q : α → sProp 𝕄} {h0 h1 h2 h3 h4 h5 h6 h7} {k} (h : St m K c 32 8 8 32 32 32 30 32 32 ⊢ run c (k ⟨c, v2w c, Scalar.cmpi .ne (v2w c) 30#32⟩) Q) :
    St m K c 0 0 0 0 0 0 0 0 0 ⊢ run c (k0_part34 xM h0 hM h1 aM h2 bM h3 oM h4 wM h5 cM h6 rM h7 cc0_scratch3 cc0_scratch4 cc0_scratch5 cc0_scratch6 >>= k) Q := by
  refine run_bind ?_; rw [k0_part34_eq_skeleton]; unfold k0_part34_skel
  refine part1 m K ?_
  refine part2 m K ?_
  refine part3 m K ?_
  refine part4 m K ?_
  refine part5 m K ?_
  refine part6 m K ?_
  refine part7 m K ?_
  refine part8 m K ?_
  refine part9 m K ?_
  refine part10 m K ?_
  refine part11 m K ?_
  refine part12 m K ?_
  refine part13 m K ?_
  refine part14 m K ?_
  refine part15 m K ?_
  refine part16 m K ?_
  refine part17 m K ?_
  refine part18 m K ?_
  refine part19 m K ?_
  refine part20 m K ?_
  refine part21 m K ?_
  refine part22 m K ?_
  refine part23 m K ?_
  refine part24 m K ?_
  refine part25 m K ?_
  refine part26 m K ?_
  refine part27 m K ?_
  refine part28 m K ?_
  refine part29 m K ?_
  refine part30 m K ?_
  refine part31 m K ?_
  refine part32 m K ?_
  refine part33 m K ?_
  extract_lets -merge
  refine step_swait m K 26 (h := ?_)
  refine step_swait m K 27 (h := ?_)
  refine step_swait m K 28 (h := ?_)
  refine step_swait m K 29 (h := ?_)
  exact step_ret h

/-- The body takes the state before everything to the state after everything. -/
theorem body_run {Q : PUnit → sProp 𝕄} {h0 h1 h2 h3 h4 h5 h6 h7} (h : St m K c 32 8 8 32 32 32 32 32 32 ⊢ Q ⟨⟩) :
    St m K c 0 0 0 0 0 0 0 0 0 ⊢ run c (cc0_body xM h0 hM h1 aM h2 bM h3 oM h4 wM h5 cM h6 rM h7 cc0_scratch3 cc0_scratch4 cc0_scratch5 cc0_scratch6) Q := by
  rw [cc0_body_eq_skeleton]; unfold cc0_body_skel
  refine part34 m K ?_
  extract_lets -merge
  refine step_swait m K 30 (h := ?_)
  refine step_swait m K 31 (h := ?_)
  exact step_ret h

end Cert.Run
-- ==== Proof.Slots.lean ====
/-
# Buffers as their slots

The two block buffers and the weight buffer are their slots (and the elements outside every slot), and the weight matrix in
device memory is its eight column chunks; each splits so at the start and joins back at the end.
-/
module

public import proofs.«01_k».proof.Proof.Steps
public import Idealize.ShloMosaic.Lib.Ring.WriteBehind

@[expose] public section

noncomputable section
namespace Cert.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
variable {F : FTy → Type} [FloatOps F]
local notation "𝕄" => MT nD τ sig Unit (Elt F) ℕ UU ℕ
variable (m : (ℓ : Loc nD τ sig) → Buf (Elt F) ℓ)

/-! ## Slots are disjoint -/

theorem val_sep {n : ℕ} {i j : Fin n} (h : i ≠ j) : i.val + 1 ≤ j.val ∨ j.val + 1 ≤ i.val := by
  have : i.val ≠ j.val := fun e => h (Fin.ext e)
  omega

theorem rect3_disj (i j : Fin 32) (h : i ≠ j) : Disjoint (rect3 i).set (rect3 j).set := Rect.unit_disjoint 0 (val_sep h)
theorem rectW_disj (i j : Fin 4) (h : i ≠ j) : Disjoint (rectW i).set (rectW j).set := Rect.unit_disjoint 0 (val_sep h)

theorem cS_disj (i j : Fin 32) (h : i ≠ j) : Disjoint (cS i).view.set (cS j).view.set := by
  rw [slot_set, slot_set]
  show Disjoint ((View.whole cc0_scratch1).slice (rect3 i)).set ((View.whole cc0_scratch1).slice (rect3 j)).set
  rw [View.set_slice_whole, View.set_slice_whole]; exact rect3_disj i j h
theorem rS_disj (i j : Fin 32) (h : i ≠ j) : Disjoint (rS i).view.set (rS j).view.set := by
  rw [slot_set, slot_set]
  show Disjoint ((View.whole cc0_scratch2).slice (rect3 i)).set ((View.whole cc0_scratch2).slice (rect3 j)).set
  rw [View.set_slice_whole, View.set_slice_whole]; exact rect3_disj i j h
theorem wS_disj (i j : Fin 4) (h : i ≠ j) : Disjoint (wS i).view.set (wS j).view.set := by
  rw [slot_set, slot_set]
  show Disjoint ((View.whole cc0_scratch0).slice (rectW i)).set ((View.whole cc0_scratch0).slice (rectW j)).set
  rw [View.set_slice_whole, View.set_slice_whole]; exact rectW_disj i j h
abbrev rectH (k : Fin 8) : Rect S4096x2048 := Rect.unit (s := S4096x2048) ![0, 256 * k.val] S4096x256.size (inbH k.val k.isLt)
theorem rectH_disj (i j : Fin 8) (h : i ≠ j) : Disjoint (rectH i).set (rectH j).set :=
  Rect.unit_disjoint 1 (by
    show 256 * i.val + 256 ≤ 256 * j.val ∨ 256 * j.val + 256 ≤ 256 * i.val
    rcases val_sep h with h | h <;> omega)
theorem hS_set (k : Fin 8) : (hS k).view.set = (rectH k).set := View.set_slice_whole main_arg1 (rectH k)
theorem hS_disj (i j : Fin 8) (h : i ≠ j) : Disjoint (hS i).view.set (hS j).view.set := by
  rw [hS_set, hS_set]; exact rectH_disj i j h

/-! ## Splitting and joining -/

/-- The elements of a buffer outside every slot of a family. -/
def cRest (c : Dev nD) : sProp 𝕄 := iprop(∃ f, ((c : Thread nD τ).loc cc0_scratch1) ↦[Finset.univ \ Finset.univ.biUnion fun i => (cS i).view.set]{fullShare} f)
def rRest (c : Dev nD) : sProp 𝕄 := iprop(∃ f, ((c : Thread nD τ).loc cc0_scratch2) ↦[Finset.univ \ Finset.univ.biUnion fun i => (rS i).view.set]{fullShare} f)
def wRest (c : Dev nD) : sProp 𝕄 := iprop(∃ f, ((c : Thread nD τ).loc cc0_scratch0) ↦[Finset.univ \ Finset.univ.biUnion fun i => (wS i).view.set]{fullShare} f)
def hRest (c : Dev nD) : sProp 𝕄 :=
  ((c : Thread nD τ).loc main_arg1) ↦[Finset.univ \ Finset.univ.biUnion fun i => (hS i).view.set]{fullShare} m ((c : Thread nD τ).loc main_arg1)

theorem c_split (c : Dev nD) : iprop(∃ f, ((c : Thread nD τ).loc cc0_scratch1) ↦{fullShare} f) ⊢ (iprop(bigSep Finset.univ (cAny c) ∗ cRest c) : sProp 𝕄) :=
  Ring.pieces_split_spare (ℓ := (c : Thread nD τ).loc cc0_scratch1) (fun i => (cS i).view.set) cS_disj
    (fun i f => (cS i).view.loc (c : Thread nD τ) ↦[(cS i).view.set]{fullShare} f) (fun _ _ => rfl)
theorem c_join (c : Dev nD) : (iprop(bigSep Finset.univ (cAny c) ∗ cRest c) : sProp 𝕄) ⊢ iprop(∃ f, ((c : Thread nD τ).loc cc0_scratch1) ↦{fullShare} f) :=
  Ring.pieces_join_spare (ℓ := (c : Thread nD τ).loc cc0_scratch1) (fun i => (cS i).view.set) cS_disj
    (fun i f => (cS i).view.loc (c : Thread nD τ) ↦[(cS i).view.set]{fullShare} f) (fun _ _ => rfl)
theorem r_split (c : Dev nD) : iprop(∃ f, ((c : Thread nD τ).loc cc0_scratch2) ↦{fullShare} f) ⊢ (iprop(bigSep Finset.univ (rAny c) ∗ rRest c) : sProp 𝕄) :=
  Ring.pieces_split_spare (ℓ := (c : Thread nD τ).loc cc0_scratch2) (fun i => (rS i).view.set) rS_disj
    (fun i f => (rS i).view.loc (c : Thread nD τ) ↦[(rS i).view.set]{fullShare} f) (fun _ _ => rfl)
theorem r_join (c : Dev nD) : (iprop(bigSep Finset.univ (rAny c) ∗ rRest c) : sProp 𝕄) ⊢ iprop(∃ f, ((c : Thread nD τ).loc cc0_scratch2) ↦{fullShare} f) :=
  Ring.pieces_join_spare (ℓ := (c : Thread nD τ).loc cc0_scratch2) (fun i => (rS i).view.set) rS_disj
    (fun i f => (rS i).view.loc (c : Thread nD τ) ↦[(rS i).view.set]{fullShare} f) (fun _ _ => rfl)
theorem w_split (c : Dev nD) : iprop(∃ f, ((c : Thread nD τ).loc cc0_scratch0) ↦{fullShare} f) ⊢ (iprop(bigSep Finset.univ (wAny c) ∗ wRest c) : sProp 𝕄) :=
  Ring.pieces_split_spare (ℓ := (c : Thread nD τ).loc cc0_scratch0) (fun i => (wS i).view.set) wS_disj
    (fun i f => (wS i).view.loc (c : Thread nD τ) ↦[(wS i).view.set]{fullShare} f) (fun _ _ => rfl)
theorem w_join (c : Dev nD) : (iprop(bigSep Finset.univ (wAny c) ∗ wRest c) : sProp 𝕄) ⊢ iprop(∃ f, ((c : Thread nD τ).loc cc0_scratch0) ↦{fullShare} f) :=
  Ring.pieces_join_spare (ℓ := (c : Thread nD τ).loc cc0_scratch0) (fun i => (wS i).view.set) wS_disj
    (fun i f => (wS i).view.loc (c : Thread nD τ) ↦[(wS i).view.set]{fullShare} f) (fun _ _ => rfl)

/-- The weight matrix in device memory, at its launch contents. -/
def hPts (c : Dev nD) : sProp 𝕄 := ((c : Thread nD τ).loc main_arg1) ↦{fullShare} m ((c : Thread nD τ).loc main_arg1)

theorem h_pieces (c : Dev nD) :
    (((c : Thread nD τ).loc main_arg1) ↦[Finset.univ.biUnion fun i : Fin 8 => (hS i).view.set]{fullShare} m ((c : Thread nD τ).loc main_arg1) : sProp 𝕄)
      = bigSep Finset.univ (hPc m c) :=
  pointsTo_biUnion (ℓ := (c : Thread nD τ).loc main_arg1) Finset.univ (fun i : Fin 8 => (hS i).view.set) (fun i _ j _ h => hS_disj i j h)
theorem h_split (c : Dev nD) : hPts m c ⊢ iprop(bigSep Finset.univ (hPc m c) ∗ hRest m c) := by
  rw [← h_pieces]; exact (pointsTo_split_subset (Finset.subset_univ _)).1
theorem h_join (c : Dev nD) : iprop(bigSep Finset.univ (hPc m c) ∗ hRest m c) ⊢ hPts m c := by
  rw [← h_pieces]; exact (pointsTo_split_subset (Finset.subset_univ _)).2

/-! ## A slot with known contents is a slot -/

theorem cOwn_any (c : Dev nD) (i : Fin 32) : cOwn m c i ⊢ cAny c i := by
  unfold cOwn cAny owns; iintro ⟨%f, -, H⟩; iexists f; iexact H
theorem rOwn_any (c : Dev nD) (i : Fin 32) : rOwn m c i ⊢ rAny c i := by
  unfold rOwn rAny owns; iintro ⟨%f, -, H⟩; iexists f; iexact H
theorem wOwn_any (c : Dev nD) (k : Fin 8) : wOwn m c k ⊢ wAny c (sl k) := by
  unfold wOwn wAny owns; iintro ⟨%f, -, H⟩; iexists f; iexact H

end Cert.Run
-- ==== Proof.Ends.lean ====
/-
# The first state and the last

What a device is dealt is its state with nothing done; from its state with everything done, every cell of the exchange
closes, its counter at zero, and the slots are again slots at anything.
-/
module

public import proofs.«01_k».proof.Proof.Slots

@[expose] public section

noncomputable section
namespace Cert.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
variable {F : FTy → Type} [FloatOps F]
local notation "𝕄" => MT nD τ sig Unit (Elt F) ℕ UU ℕ
variable (m : (ℓ : Loc nD τ sig) → Buf (Elt F) ℓ) (K : KIx → ℕ)

theorem sep_fam2 {n : ℕ} (A B : Fin n → sProp 𝕄) :
    bigSep Finset.univ (fun i => iprop(A i ∗ B i)) = iprop(bigSep Finset.univ A ∗ bigSep Finset.univ B) := bigSep_sep' _ _ _
theorem sep_fam3 {n : ℕ} (A B C : Fin n → sProp 𝕄) :
    bigSep Finset.univ (fun i => iprop(A i ∗ B i ∗ C i)) = iprop(bigSep Finset.univ A ∗ bigSep Finset.univ B ∗ bigSep Finset.univ C) := by
  rw [bigSep_sep', bigSep_sep']

theorem fin4_sep (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fin8_sep (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem fin3_sep (Φ : Fin 3 → sProp 𝕄) : bigSep Finset.univ Φ = iprop(Φ 0 ∗ Φ 1 ∗ Φ 2) :=
  bigSep_univ_eq_bigSepL [0, 1, 2] (by decide) (by decide) Φ

/-! ## The first state -/

/-- A device's positions on its cells for index `i`, and the rights to the payments it makes for index `i`. -/
def gF (c : Dev nD) (i : Fin 32) : sProp 𝕄 :=
  iprop((atPos ER (cell 0 c i) 0 ∅ 0 ∗ atPos ER (cell 1 c i) 0 ∅ 0 ∗ atPos ER (cell 2 c i) 0 ∅ 0)
    ∗ dutyTok ER (cell 0 i c) 0 () ∗ dutyTok ER (cell 1 c i) 0 () ∗ dutyTok ER (cell 2 i c) 0 ())
/-- What a device is owed for index `i`. -/
def dueF (c : Dev nD) (k : Fin 3) (a : ℕ) (i : Fin 32) : sProp 𝕄 := if i = c then iprop(emp) else cred (tallyAt (cell k c i) () a)

theorem first_at (c : Dev nD) (i : Fin 32) :
    iprop(gF c i ∗ (dueF c 0 1 i ∗ dueF c 2 N i) ∗ rAny c i) ⊢ iprop(crF c 0 i ∗ seF c 0 0 i ∗ reF m c 0 0 i) := by
  unfold gF dueF crF seF reF
  by_cases h : i = c
  · rw [if_pos (Or.inl h), if_pos h, if_pos h, if_pos h, if_pos h, if_neg (Nat.not_lt_zero _)]
    iintro ⟨⟨⟨H0, H1, H2⟩, -⟩, -, HR⟩
    isplitr; · iempintro
    isplitl [H0 H1]
    · isplitl [H0]; · iexact H0
      iexact H1
    isplitl [HR]; · iexact HR
    iexact H2
  · rw [if_neg (not_or.mpr ⟨h, Nat.not_lt_zero i.val⟩), if_neg h, if_neg h, if_neg h, if_neg h,
      if_neg (Nat.not_lt_zero _), if_neg (Nat.not_lt_zero _)]
    iintro ⟨⟨⟨H0, H1, H2⟩, T0, T1, T2⟩, ⟨C0, C2⟩, HR⟩
    isplitl [T0 HR]
    · isplitl [T0]; · iexact T0
      iexact HR
    isplitl [C0 H0 H1 T1 T2]
    · isplitl [C0]; · iexact C0
      isplitl [H0]; · iexact H0
      isplitl [H1]; · iexact H1
      isplitl [T2]; · iexact T2
      iexact T1
    isplitl [C2]; · iexact C2
    iexact H2

theorem first_fams (c : Dev nD) :
    iprop(bigSep Finset.univ (gF c) ∗ (bigSep Finset.univ (dueF c 0 1) ∗ bigSep Finset.univ (dueF c 2 N)) ∗ bigSep Finset.univ (rAny c))
      ⊢ (iprop(bigSep Finset.univ (crF c 0) ∗ bigSep Finset.univ (seF c 0 0) ∗ bigSep Finset.univ (reF m c 0 0)) : sProp 𝕄) := by
  rw [← sep_fam2 (dueF c 0 1), ← sep_fam3 (gF c), ← sep_fam3 (crF c 0)]
  exact bigSep_mono fun i _ => first_at m c i

theorem first_c (c : Dev nD) : (bigSep Finset.univ (cAny c) : sProp 𝕄) ⊢ bigSep Finset.univ (coF m c 0 0 0) :=
  bigSep_mono fun i _ => by unfold coF; rw [if_neg (Nat.not_lt_zero _)]; exact BI.Entails.refl _

theorem first_w (c : Dev nD) :
    iprop(bigSep Finset.univ (hPc m c) ∗ bigSep Finset.univ (wAny c) ∗ bigSep Finset.univ (wSem c)) ⊢ bigSep Finset.univ (wF m c 0 0) := by
  have e : bigSep Finset.univ (wF m c 0 0)
      = iprop(bigSep Finset.univ (hPc m c) ∗ bigSep Finset.univ fun k : Fin 8 => (iprop(if k.val < 4 then (wAny c (sl k) ∗ wSem c (sl k)) else emp) : sProp 𝕄)) := by
    rw [← bigSep_sep']
    exact bigSep_congr fun k _ => by unfold wF; rw [if_neg (Nat.not_lt_zero _)]
  rw [e]
  refine sep_mono_right ?_
  rw [fin8_sep (F := F), fin4_sep (F := F), fin4_sep (F := F)]
  rw [if_pos (by decide), if_pos (by decide), if_pos (by decide), if_pos (by decide), if_neg (by decide), if_neg (by decide), if_neg (by decide), if_neg (by decide)]
  iintro ⟨⟨A0, A1, A2, A3⟩, S0, S1, S2, S3⟩
  isplitl [A0 S0]; · isplitl [A0]; · iexact A0
                     iexact S0
  isplitl [A1 S1]; · isplitl [A1]; · iexact A1
                     iexact S1
  isplitl [A2 S2]; · isplitl [A2]; · iexact A2
                     iexact S2
  isplitl [A3 S3]; · isplitl [A3]; · iexact A3
                     iexact S3
  isplitr; · iempintro
  isplitr; · iempintro
  isplitr; · iempintro
  iempintro

/-! ## The last state -/

theorem close_cell (k : Fin 3) (c : Dev nD) (i : Fin 32) (R : ℕ) (hR : ∀ r, R ≤ r → (Rd (F := F) m).duties (cell k c i) r = ∅) :
    iprop(recs m K ∗ atPos ER (cell k c i) R ∅ 0) ⊢ |={Set.univ}=> semVal (cell k c i) 0 := by
  iintro ⟨#HR, Hat⟩
  iapply (Rounds.cell_close ER (Rd m) (κ := K (c, (k, i))) (Set.mem_univ _) (fun h => h) (R := R) hR)
  isplitr; · iapply (recs_inv m K k c i); iexact HR
  iexact Hat

theorem no_duty (k : Fin 3) (c : Dev nD) (i : Fin 32) (h : i = c) : ∀ r, 0 ≤ r → (Rd (F := F) m).duties (cell k c i) r = ∅ := by
  have h' := h.symm; subst h'; exact fun r _ => duties_self m k _ r

theorem fam_close {n : ℕ} {Φ Ψ : Fin n → sProp 𝕄} (h : ∀ i, iprop(recs m K ∗ Φ i) ⊢ |={Set.univ}=> Ψ i) :
    iprop(recs m K ∗ bigSep Finset.univ Φ) ⊢ |={Set.univ}=> bigSep Finset.univ Ψ :=
  ((sep_mono_left (BI.bigSep_of_persistent Finset.univ (recs m K))).trans (by rw [← bigSep_sep']; exact bigSep_mono fun i _ => h i)).trans (bigSep_fupd _ _)

theorem se_close (c : Dev nD) (i : Fin 32) :
    iprop(recs m K ∗ seF c 32 32 i) ⊢ |={Set.univ}=> iprop(semVal (cell 0 c i) 0 ∗ semVal (cell 1 c i) 0) := by
  unfold seF
  by_cases h : i = c
  · rw [if_pos h]
    iintro ⟨#HR, H0, H1⟩
    imod (close_cell m K 0 c i 0 (no_duty m 0 c i h)) $$ [H0] with Z0
    · isplitr; · iexact HR
      iexact H0
    imod (close_cell m K 1 c i 0 (no_duty m 1 c i h)) $$ [H1] with Z1
    · isplitr; · iexact HR
      iexact H1
    imodintro
    isplitl [Z0]; · iexact Z0
    iexact Z1
  · rw [if_neg h, if_pos i.isLt, if_pos i.isLt]
    iintro ⟨#HR, H0, H1⟩
    imod (close_cell m K 0 c i 1 (duties_later m _)) $$ [H0] with Z0
    · isplitr; · iexact HR
      iexact H0
    imod (close_cell m K 1 c i 1 (duties_later m _)) $$ [H1] with Z1
    · isplitr; · iexact HR
      iexact H1
    imodintro
    isplitl [Z0]; · iexact Z0
    iexact Z1

theorem re_close (c : Dev nD) (i : Fin 32) :
    iprop(recs m K ∗ reF m c 32 32 i) ⊢ |={Set.univ}=> iprop(rAny c i ∗ semVal (cell 2 c i) 0) := by
  unfold reF
  by_cases h : i = c
  · rw [if_pos h, if_pos i.isLt]
    iintro ⟨#HR, HB, H2⟩
    imod (close_cell m K 2 c i 0 (no_duty m 2 c i h)) $$ [H2] with Z2
    · isplitr; · iexact HR
      iexact H2
    imodintro
    isplitl [HB]; · iapply (rOwn_any m c i); iexact HB
    iexact Z2
  · rw [if_neg h, if_pos i.isLt]
    iintro ⟨#HR, HB, H2⟩
    imod (close_cell m K 2 c i 1 (duties_later m _)) $$ [H2] with Z2
    · isplitr; · iexact HR
      iexact H2
    imodintro
    isplitl [HB]; · iapply (rOwn_any m c i); iexact HB
    iexact Z2

theorem last_c (c : Dev nD) : bigSep Finset.univ (coF m c 32 32 32) ⊢ (bigSep Finset.univ (cAny c) : sProp 𝕄) :=
  bigSep_mono fun i _ => by
    unfold coF; rw [if_pos i.isLt, if_neg (fun h => h.2.1 i.isLt)]; exact cOwn_any m c i

theorem last_w (c : Dev nD) :
    bigSep Finset.univ (wF m c 8 8) ⊢ iprop(bigSep Finset.univ (hPc m c) ∗ bigSep Finset.univ (wAny c) ∗ bigSep Finset.univ (wSem c)) := by
  have e : bigSep Finset.univ (wF m c 8 8)
      = iprop(bigSep Finset.univ (hPc m c) ∗ bigSep Finset.univ fun k : Fin 8 => (iprop(if k.val + 4 < 8 then emp else (wOwn m c k ∗ wSem c (sl k))) : sProp 𝕄)) := by
    rw [← bigSep_sep']
    exact bigSep_congr fun k _ => by unfold wF; rw [if_pos k.isLt, if_pos k.isLt]
  rw [e]
  refine sep_mono_right ?_
  rw [fin8_sep (F := F), fin4_sep (F := F), fin4_sep (F := F)]
  rw [if_pos (by decide), if_pos (by decide), if_pos (by decide), if_pos (by decide), if_neg (by decide), if_neg (by decide), if_neg (by decide), if_neg (by decide)]
  iintro ⟨-, -, -, -, ⟨A0, S0⟩, ⟨A1, S1⟩, ⟨A2, S2⟩, A3, S3⟩
  isplitl [A0 A1 A2 A3]
  · isplitl [A0]; · iapply (wOwn_any m c 4); iexact A0
    isplitl [A1]; · iapply (wOwn_any m c 5); iexact A1
    isplitl [A2]; · iapply (wOwn_any m c 6); iexact A2
    iapply (wOwn_any m c 7); iexact A3
  isplitl [S0]; · iexact S0
  isplitl [S1]; · iexact S1
  isplitl [S2]; · iexact S2
  iexact S3

end Cert.Run
-- ==== Proof.Fund.lean ====
/-
# The ghost resources and the semaphores a device starts with

Every cell of the exchange is set up with its counter at zero and one payment right; the rights are dealt to the devices
that make the payments, the receive and credit rights of cell `i` of device `c` to device `i`.
-/
module

public import proofs.«01_k».proof.Proof.Ends

@[expose] public section

noncomputable section
namespace Cert.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
variable {F : FTy → Type} [FloatOps F]
local notation "𝕄" => MT nD τ sig Unit (Elt F) ℕ UU ℕ
variable (m : (ℓ : Loc nD τ sig) → Buf (Elt F) ℓ)

/-! ## The kernel's own semaphores -/

abbrev Own : Type := Fin 4 ⊕ (Fin 3 × Fin 32)
/-- The weight buffer's four and the exchange's ninety-six. -/
def osem : Own → SemLoc sig
  | .inl s => .dma (wdmaS s)
  | .inr p => csem p

theorem ownSemFacts : Pipeline.OwnSemFacts cfg0.spec osem := by decide +kernel

/-- A family over the exchange's cells of one device, kind by kind. -/
theorem cells_sep (Φ : Fin 3 × Fin 32 → sProp 𝕄) :
    bigSep Finset.univ Φ = iprop((bigSep Finset.univ fun i => Φ (0, i)) ∗ (bigSep Finset.univ fun i => Φ (1, i)) ∗ bigSep Finset.univ fun i => Φ (2, i)) := by
  rw [bigSep_univ_prod, fin3_sep (F := F)]

theorem ownSems0_eq (c : Dev nD) : (Pipeline.ownSems0 (Ix := Unit) (Name := ℕ) (U := UU) (Lvl := ℕ) (Val := Elt F) (τ := τ) osem c : sProp 𝕄)
    = iprop(bigSep Finset.univ (wSem c) ∗ bigSep Finset.univ fun p : Fin 3 × Fin 32 => semVal (kcell (c, p)) 0) := by
  unfold Pipeline.ownSems0; exact bigSep_univ_sum _

theorem unscopedSems0_eq (c : Dev nD) : (unscopedSems0 c : sProp 𝕄) = barZ c := by
  unfold unscopedSems0; rw [bigSep_eq_bigSepL_of_eq [SemLoc.reg barS] (by decide) (by decide)]; rfl

/-! ## Setting the cells up -/

theorem kcell_inj : Function.Injective (kcell : KIx → GSem nD τ sig) := by
  rintro ⟨c, p⟩ ⟨c', p'⟩ h
  have h1 : c = c' := congrArg (fun g : GSem nD τ sig => g.1.1) h
  have h2 : p = p' := csem_inj (congrArg Prod.snd h)
  rw [h1, h2]
def exCells : Finset (GSem nD τ sig) := Finset.univ.map ⟨kcell, kcell_inj⟩
def exTok (q : KIx) : GSem nD τ sig × ℕ × Unit := (kcell q, 0, ())
theorem exTok_inj : Function.Injective exTok := fun _ _ h => kcell_inj (congrArg Prod.fst h)
def exToks : Finset (GSem nD τ sig × ℕ × Unit) := Finset.univ.map ⟨exTok, exTok_inj⟩

def u₀ : UU :=
  (initOf (Pipeline.cells cfgs cellOf_inj) (Pipeline.launchToks cfgs cellOf_inj), (initOf exCells exToks, 1))

/-- What the launch deals device `c` for its own cells. -/
def G (c : Dev nD) : sProp 𝕄 :=
  iprop((bigSep Finset.univ fun p : Fin 3 × Fin 32 => roundState ER (Rd m) (kcell (c, p)) 0)
    ∗ (bigSep Finset.univ fun p : Fin 3 × Fin 32 => atPos ER (kcell (c, p)) 0 ∅ 0)
    ∗ (bigSep Finset.univ fun p : Fin 3 × Fin 32 => reached ER (kcell (c, p)) 0)
    ∗ bigSep Finset.univ fun p : Fin 3 × Fin 32 => dutyTok ER (kcell (c, p)) 0 ())

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun p : Fin 3 × Fin 32 => Φ (kcell (c, p)) := by
    unfold exCells; rw [bigSep_map, bigSep_univ_prod]; rfl
  have hT : bigSep exToks (fun x => (dutyTok ER x.1 x.2.1 x.2.2 : sProp 𝕄))
      = bigSep Finset.univ fun c : Dev nD => bigSep Finset.univ fun p : Fin 3 × Fin 32 => dutyTok ER (kcell (c, p)) 0 () := by
    unfold exToks; rw [bigSep_map, bigSep_univ_prod]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The global step -/

/-- What a device starts with, after the cells are set up. -/
def G' (c : Dev nD) : sProp 𝕄 := iprop((∃ K, recs m K) ∗ bigSep Finset.univ (gF c) ∗ bigSep Finset.univ (wSem c) ∗ barZ c)

/-- One device's cells set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun p : Fin 3 × Fin 32 => iprop(∃ κ : ℕ, cellInv ER (Rd m) κ (kcell (c, p))))
          ∗ (bigSep Finset.univ fun p : Fin 3 × Fin 32 => reached ER (kcell (c, p)) 0)
          ∗ (bigSep Finset.univ fun p : Fin 3 × Fin 32 => atPos ER (kcell (c, p)) 0 ∅ 0)
          ∗ (bigSep Finset.univ fun p : Fin 3 × Fin 32 => dutyTok ER (kcell (c, p)) 0 ())
          ∗ bigSep Finset.univ (wSem c) ∗ barZ c) := by
  rw [ownSems0_eq, unscopedSems0_eq]
  unfold G
  iintro ⟨⟨Hw, Hv⟩, Hb, Hst, Hat, Hr, Htok⟩
  imod (show iprop((bigSep Finset.univ fun p : Fin 3 × Fin 32 => semVal (kcell (c, p)) 0) ∗ bigSep Finset.univ fun p : Fin 3 × Fin 32 => roundState ER (Rd m) (kcell (c, p)) 0)
      ⊢ (|={Set.univ}=> bigSep Finset.univ fun p : Fin 3 × Fin 32 => iprop(∃ κ : ℕ, cellInv ER (Rd m) κ (kcell (c, p))) : sProp 𝕄) from by
        rw [← bigSep_sep']
        exact (bigSep_mono fun p _ => (Rounds.body_intro ER (Rd m) (kcell (c, p))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  isplitl [Hw]; · iexact Hw
  iexact Hb

/-- A family over pairs of devices, read the other way round. -/
theorem swap_fam (Φ : Dev nD → Fin 32 → sProp 𝕄) :
    (bigSep Finset.univ fun c : Dev nD => bigSep Finset.univ fun i : Fin 32 => Φ c i) = bigSep Finset.univ fun c : Dev nD => bigSep Finset.univ fun i : Fin 32 => Φ i c := by
  rw [← bigSep_univ_prod (fun p : Dev nD × Fin 32 => Φ p.1 p.2), ← bigSep_univ_prod (fun p : Dev nD × Fin 32 => Φ p.2 p.1),
    bigSep_univ_equiv (Equiv.prodComm (Dev nD) (Fin 32)) (fun p : Fin 32 × Dev nD => Φ p.1 p.2)]
  rfl

/-- The positions stay; the credit and receive rights cross over, the send rights stay. -/
theorem deal :
    iprop((bigSep Finset.univ fun c : Dev nD => bigSep Finset.univ fun p : Fin 3 × Fin 32 => (atPos ER (kcell (c, p)) 0 ∅ 0 : sProp 𝕄))
        ∗ bigSep Finset.univ fun c : Dev nD => bigSep Finset.univ fun p : Fin 3 × Fin 32 => (dutyTok ER (kcell (c, p)) 0 () : sProp 𝕄))
      ⊢ bigSep Finset.univ fun c : Dev nD => bigSep Finset.univ (gF c) := by
  have e1 : (bigSep Finset.univ fun c : Dev nD => bigSep Finset.univ fun p : Fin 3 × Fin 32 => (atPos ER (kcell (c, p)) 0 ∅ 0 : sProp 𝕄))
      = bigSep Finset.univ fun c : Dev nD => bigSep Finset.univ fun i : Fin 32 =>
          iprop(atPos ER (cell 0 c i) 0 ∅ 0 ∗ atPos ER (cell 1 c i) 0 ∅ 0 ∗ atPos ER (cell 2 c i) 0 ∅ 0) :=
    bigSep_congr fun c _ => by rw [cells_sep (F := F), ← sep_fam3]
  have e2 : (bigSep Finset.univ fun c : Dev nD => bigSep Finset.univ fun p : Fin 3 × Fin 32 => (dutyTok ER (kcell (c, p)) 0 () : sProp 𝕄))
      = bigSep Finset.univ fun c : Dev nD => bigSep Finset.univ fun i : Fin 32 =>
          iprop(dutyTok ER (cell 0 i c) 0 () ∗ dutyTok ER (cell 1 c i) 0 () ∗ dutyTok ER (cell 2 i c) 0 ()) := by
    rw [bigSep_congr (s := Finset.univ) fun (c : Dev nD) _ => cells_sep (F := F) fun p => dutyTok ER (kcell (c, p)) 0 (),
      bigSep_congr (s := Finset.univ) fun (c : Dev nD) _ => sep_fam3 (F := F) (fun i : Fin 32 => dutyTok ER (cell 0 i c) 0 ()) (fun i => dutyTok ER (cell 1 c i) 0 ()) fun i => dutyTok ER (cell 2 i c) 0 (),
      bigSep_sep', bigSep_sep', bigSep_sep', bigSep_sep',
      swap_fam (F := F) fun c i => dutyTok ER (cell 0 i c) 0 (), swap_fam (F := F) fun c i => dutyTok ER (cell 2 i c) 0 ()]
  rw [e1, e2, ← bigSep_sep']
  exact bigSep_mono fun c _ => by unfold gF; rw [← bigSep_sep']; exact BI.Entails.refl _

theorem regroup :
    (bigSep Finset.univ fun c : Dev nD => iprop((bigSep Finset.univ fun p : Fin 3 × Fin 32 => iprop(∃ κ : ℕ, cellInv ER (Rd m) κ (kcell (c, p))))
          ∗ (bigSep Finset.univ fun p : Fin 3 × Fin 32 => reached ER (kcell (c, p)) 0)
          ∗ (bigSep Finset.univ fun p : Fin 3 × Fin 32 => atPos ER (kcell (c, p)) 0 ∅ 0)
          ∗ (bigSep Finset.univ fun p : Fin 3 × Fin 32 => dutyTok ER (kcell (c, p)) 0 ())
          ∗ bigSep Finset.univ (wSem c) ∗ barZ c) : sProp 𝕄)
      ⊢ bigSep Finset.univ (G' m) := by
  have e : bigSep Finset.univ (G' m) = iprop((bigSep Finset.univ fun _ : Dev nD => iprop(∃ K, recs m K)) ∗ (bigSep Finset.univ fun c => bigSep Finset.univ (gF c))
      ∗ (bigSep Finset.univ fun c => bigSep Finset.univ (wSem c)) ∗ bigSep Finset.univ barZ) := by
    unfold G'; rw [bigSep_sep', bigSep_sep', bigSep_sep']
  rw [e, bigSep_sep', bigSep_sep', bigSep_sep', bigSep_sep', bigSep_sep', ← bigSep_univ_prod (fun q : KIx => iprop(∃ κ : ℕ, cellInv ER (Rd m) κ (kcell q))),
    ← bigSep_univ_prod (fun q : KIx => (reached ER (kcell q) 0 : sProp 𝕄))]
  iintro ⟨HI, #HR, Hat, Htok, Hrest⟩
  ihave HK := (BI.bigSep_exists_pi Finset.univ (fun (q : KIx) (κ : ℕ) => (cellInv ER (Rd m) κ (kcell q) : sProp 𝕄))) $$ HI
  icases HK with ⟨%K, #HI⟩
  ihave Hg := (deal (F := F)) $$ [Hat Htok]
  · isplitl [Hat] <;> iassumption
  isplitr
  · iapply (BI.bigSep_of_persistent (Finset.univ : Finset (Dev nD)) (iprop(∃ K, recs m K)))
    iexists K
    unfold recs
    isplitr; · iexact HI
    iexact HR
  isplitl [Hg]; · iexact Hg
  iexact Hrest

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_eq_iff {k k' : Fin 3} {a b : Dev nD} {i j : Fin 32} : Iff (cell k a i = cell k' b j) (k = k' ∧ a = b ∧ i = j) := by
  constructor
  · intro h
    have h1 : a = b := congrArg (fun g : GSem nD τ sig => g.1.1) h
    have h2 : (k, i) = (k', j) := csem_inj (congrArg Prod.snd h)
    exact ⟨congrArg Prod.fst h2, h1, congrArg Prod.snd h2⟩
  · rintro ⟨rfl, rfl, rfl⟩; rfl

/-- What device `d` owes at the start on cell `i` of kind `k'` of device `c`: an amount if `d` is `i`. -/
theorem Osum_at (d c : Dev nD) (k k' : Fin 3) (i : Fin 32) (a : ℕ) (h : i ≠ c) :
    Osum d k 0 a (cell k' c i) () = if d = i then (if k = k' then a else 0) else 0 := by
  unfold Osum
  rw [Finset.sum_apply, Finsupp.finset_sum_apply]
  by_cases hd : d = i
  · rw [if_pos hd, Finset.sum_eq_single (c : Fin 32)]
    · rw [tallyAt_apply]
      by_cases hk : k = k'
      · rw [if_pos ⟨cell_eq_iff.mpr ⟨hk.symm, rfl, hd.symm⟩, rfl⟩, if_pos hk]
      · rw [if_neg fun h' => hk (cell_eq_iff.mp h'.1).1.symm, if_neg hk]
    · intro j _ hj
      rw [tallyAt_apply, if_neg fun h' => hj (cell_eq_iff.mp h'.1).2.1.symm]
    · intro hc
      refine absurd (Finset.mem_filter.mpr ⟨Finset.mem_univ _, Nat.zero_le _, fun h' => h ?_⟩) hc
      exact hd.symm.trans h'.symm
  · rw [if_neg hd]
    refine Finset.sum_eq_zero fun j _ => ?_
    rw [tallyAt_apply, if_neg fun h' => hd (cell_eq_iff.mp h'.1).2.2.symm]

theorem owed_at (d c : Dev nD) (k : Fin 3) (i : Fin 32) (h : i ≠ c) :
    O d 0 0 (cell k c i) () = if d = i then (if (0 : Fin 3) = k then 1 else 0) + (if (2 : Fin 3) = k then N else 0) else 0 := by
  unfold O
  rw [Pi.add_apply, Finsupp.add_apply, Osum_at d c 0 k i 1 h, Osum_at d c 2 k i N h]
  by_cases hd : d = i
  · rw [if_pos hd, if_pos hd, if_pos hd]
  · rw [if_neg hd, if_neg hd, if_neg hd]

theorem launch_at (c : Dev nD) (k : Fin 3) (i : Fin 32) (h : i ≠ c) (a : ℕ)
    (ha : (if (0 : Fin 3) = k then 1 else 0) + (if (2 : Fin 3) = k then N else 0) = a) :
    tallyOn (cell k c i) (launchCredit (Pipeline.owing fun d => O d 0 0) 0 (cell k c i)) = (tallyAt (cell k c i) () a : CellTallies nD τ sig Unit) := by
  unfold tallyAt; refine congrArg _ (Finsupp.ext fun u => ?_); cases u
  rw [Pipeline.launchCredit_owing, Finsupp.single_eq_same, Finset.sum_congr rfl fun d _ => owed_at d c k i h, ha]
  exact (Finset.sum_ite_eq' Finset.univ (i : Dev nD) fun _ => a).trans (if_pos (Finset.mem_univ _))

theorem due_at (c : Dev nD) (k : Fin 3) (a : ℕ)
    (ha : (if (0 : Fin 3) = k then 1 else 0) + (if (2 : Fin 3) = k then N else 0) = a) :
    (bigSep Finset.univ fun i : Fin 32 => (cred (tallyOn (cell k c i) (launchCredit (Pipeline.owing fun d => O d 0 0) 0 (cell k c i))) : sProp 𝕄))
      ⊢ bigSep Finset.univ (dueF c k a) :=
  bigSep_mono fun i _ => by
    unfold dueF
    by_cases h : i = c
    · rw [if_pos h]; show (_ : sProp 𝕄) ⊢ _; iintro -; iempintro
    · rw [if_neg h, launch_at c k i h a ha]; exact BI.Entails.refl _

theorem creds (c : Dev nD) :
    (Pipeline.launchCred (fun d => O d 0 0) c : sProp 𝕄) ⊢ iprop(bigSep Finset.univ (dueF c 0 1) ∗ bigSep Finset.univ (dueF c 2 N)) := by
  unfold Pipeline.launchCred
  refine (bigSep_subset (Finset.subset_univ (Finset.univ.map ⟨csem, csem_inj⟩))).trans ?_
  rw [bigSep_map, cells_sep (F := F)]
  show (_ : sProp 𝕄) ⊢ _
  iintro ⟨H0, -, H2⟩
  isplitl [H0]
  · iapply (due_at c 0 1 (by decide)); iexact H0
  iapply (due_at c 2 N (by rw [if_neg (by decide), if_pos rfl, Nat.zero_add])); iexact H2

end Cert.Run
-- ==== Proof.Output.lean ====
/-
# The result buffer

Storing all 32 row blocks fixes every element of the result buffer, whatever it held.
-/
module

public import proofs.«01_k».proof.Proof.Slots

@[expose] public section

noncomputable section
namespace Cert.Run
open Cert.KernelIdeal Cert.KernelIdeal.Gen
open Idealize.ShloMosaic
open Idealize.ShloMosaic.TcCoe
variable {F : FTy → Type} [FloatOps F]
variable (m : (ℓ : Loc nD τ sig) → Buf (Elt F) ℓ)

theorem rectO_disj (i j : Fin 32) (h : i ≠ j) : Disjoint (rectO i).set (rectO j).set :=
  Rect.unit_disjoint 0 (by
    show 128 * i.val + 128 ≤ 128 * j.val ∨ 128 * j.val + 128 ≤ 128 * i.val
    rcases val_sep h with h | h <;> omega)

theorem accO_set (u : Fin 32) : (oM.access (rectO u)).set = (rectO u).set := View.set_slice_whole cc0_stg3_0 (rectO u)

/-- Row block `u` once stored. -/
theorem outF_at (c : Dev nD) (f : (cc0_stg3_0 : Ref sig .tc).ty.Contents (Elt F)) (u : Fin 32) (x : S128x64.Idx) :
    ∀ o, u.val < o → o ≤ 32 → outF m c f o ((oM.access (rectO u)).emb x) = outw m c u x
  | 0, h, _ => absurd h (Nat.not_lt_zero _)
  | o + 1, h, ho => by
    unfold outF
    rw [dif_pos (show o < 32 from ho)]
    by_cases e : u = ⟨o, ho⟩
    · have e' := e.symm; subst e
      exact View.write_emb_of_mem _ _ (Finset.mem_univ x)
    · rw [View.write_of_not_mem]
      · exact outF_at c f u x o (Nat.lt_of_le_of_ne (Nat.le_of_lt_succ h) fun h' => e (Fin.ext h')) (Nat.le_of_succ_le ho)
      · intro hm
        have h1 : (oM.access (rectO u)).emb x ∈ (rectO ⟨o, ho⟩).set := by rw [← accO_set]; exact hm
        have h2 : (oM.access (rectO u)).emb x ∈ (rectO u).set := by
          rw [← accO_set]; exact Finset.mem_map_of_mem _ (Finset.mem_univ x)
        exact Finset.disjoint_left.mp (rectO_disj u _ e) h2 h1

theorem outF_cover (i : S4096x64.Idx) : ∃ (u : Fin 32) (x : S128x64.Idx), (oM.access (rectO u)).emb x = i := by
  have hi : (i 0).val < 4096 := (i 0).isLt
  have hj : (i 1).val < 64 := (i 1).isLt
  let u : Fin 32 := ⟨(i 0).val / 128, by omega⟩
  have hm : i ∈ (rectO u).set := by
    rw [Rect.mem_set_unit]
    intro a; fin_cases a
    · show 128 * ((i 0).val / 128) ≤ (i 0).val ∧ (i 0).val < 128 * ((i 0).val / 128) + 128; omega
    · show 0 ≤ (i 1).val ∧ (i 1).val < 0 + 64; omega
  rw [← accO_set] at hm
  obtain ⟨x, -, hx⟩ := Finset.mem_map.mp hm
  exact ⟨u, x, hx⟩

/-- The whole result of device `c`. -/
def outAll (c : Dev nD) : (cc0_stg3_0 : Ref sig .tc).ty.Contents (Elt F) := outF m c (fun _ => aval m c) 32

theorem outAll_at (c : Dev nD) (u : Fin 32) (x : S128x64.Idx) : outAll m c ((oM.access (rectO u)).emb x) = outw m c u x :=
  outF_at m c _ u x 32 u.isLt (Nat.le_refl _)

theorem outF_all (c : Dev nD) (f : (cc0_stg3_0 : Ref sig .tc).ty.Contents (Elt F)) : outF m c f 32 = outAll m c := by
  refine funext fun (i : S4096x64.Idx) => ?_
  obtain ⟨u, x, rfl⟩ := outF_cover i
  rw [outF_at m c f u x 32 u.isLt (Nat.le_refl _)]
  exact (outAll_at m c u x).symm

end Cert.Run
-- ==== Proof.Launch.lean ====
/-
# The whole program's run

Each device is launched with its buffers and its share of the exchange, runs the body, and gives everything back; so the
program finishes from any memory, every argument as it was, every counter at zero, and the result array holds `outAll`.
-/
module

public import proofs.«01_k».proof.Proof.Body
public import proofs.«01_k».proof.Proof.Fund
public import proofs.«01_k».proof.Proof.Output
public import proofs.«01_k».proof.Proof.Gen.KernelIdeal.Points
public import Idealize.ShloMosaic.Lib.Pipeline.CollectiveSegs

@[expose] public section

noncomputable section
namespace Cert.Run
open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
variable {F : FTy → Type} [FloatOps F]
local notation "𝕄" => MT nD τ sig Unit (Elt F) ℕ UU ℕ
variable (m : (ℓ : Loc nD τ sig) → Buf (Elt F) ℓ) (ρ : Dev nD → PrngReg) (K : KIx → ℕ)

/-! ## Entering and leaving the body -/

/-- What a device's body starts from besides its buffers. -/
def start (c : Dev nD) : sProp 𝕄 :=
  iprop(G' m c ∗ (bigSep Finset.univ (dueF c 0 1) ∗ bigSep Finset.univ (dueF c 2 N)) ∗ levAts L lv ∗ hPts m c)

def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def rests (c : Dev nD) : sProp 𝕄 := iprop(cRest c ∗ rRest c ∗ wRest c ∗ hRest m c)
def stgs (c : Dev nD) (o : ℕ) : sProp 𝕄 := iprop(xPts m c ∗ aPts m c ∗ bPts m c ∗ oPts m c o)

theorem enter (c : Dev nD) :
    iprop((recs m K ∗ bigSep Finset.univ (gF c) ∗ bigSep Finset.univ (wSem c) ∗ barZ c)
        ∗ (bigSep Finset.univ (dueF c 0 1) ∗ bigSep Finset.univ (dueF c 2 N)) ∗ levAts L lv ∗ hPts m c ∗ bufs c ∗ owesF c 0 0 ∗ stgs m c 0)
      ⊢ iprop(St m K c 0 0 0 0 0 0 0 0 0 ∗ rests m c) := by
  unfold bufs stgs St rests
  iintro ⟨⟨#HR, Hg, Hws, Hb⟩, Hd, Hlev, Hh, ⟨Hw, Hc, Hr⟩, Ho, Hx, Ha, Hbb, Hoo⟩
  ihave Hw' := (w_split c) $$ Hw
  icases Hw' with ⟨Hw, HwR⟩
  ihave Hc' := (c_split c) $$ Hc
  icases Hc' with ⟨Hc, HcR⟩
  ihave Hr' := (r_split c) $$ Hr
  icases Hr' with ⟨Hr, HrR⟩
  ihave Hh' := (h_split m c) $$ Hh
  icases Hh' with ⟨Hh, HhR⟩
  ihave Hf := (first_fams m c) $$ [Hg Hd Hr]
  · isplitl [Hg]; · iexact Hg
    isplitl [Hd]; · iexact Hd
    iexact Hr
  icases Hf with ⟨Hcr, Hse, Hre⟩
  ihave Hwf := (first_w m c) $$ [Hh Hw Hws]
  · isplitl [Hh]; · iexact Hh
    isplitl [Hw]; · iexact Hw
    iexact Hws
  ihave Hco := (first_c m c) $$ Hc
  isplitr [HwR HcR HrR HhR]
  · isplitr; · iexact HR
    isplitl [Hlev]; · iexact Hlev
    isplitl [Ho]; · iexact Ho
    isplitl [Hcr]; · iexact Hcr
    isplitl [Hwf]; · iexact Hwf
    isplitl [Hco]; · iexact Hco
    isplitl [Hse]; · iexact Hse
    isplitl [Hre]; · iexact Hre
    isplitl [Hx]; · iexact Hx
    isplitl [Ha]; · iexact Ha
    isplitl [Hbb]; · iexact Hbb
    isplitl [Hoo]; · iexact Hoo
    iexact Hb
  isplitl [HcR]; · iexact HcR
  isplitl [HrR]; · iexact HrR
  isplitl [HwR]; · iexact HwR
  iexact HhR

/-- After the body: the buffers at anything, every own semaphore and the barrier's at zero, the weights as they were. -/
def done (c : Dev nD) : sProp 𝕄 :=
  iprop(bufs c ∗ Pipeline.ownSems0 (Ix := Unit) (Name := ℕ) (U := UU) (Lvl := ℕ) (Val := Elt F) (τ := τ) osem c ∗ barZ c ∗ hPts m c)

theorem leave (c : Dev nD) :
    iprop(St m K c 32 8 8 32 32 32 32 32 32 ∗ rests m c) ⊢ |={Set.univ}=> iprop(done m c ∗ owesF c 32 32 ∗ stgs m c 32) := by
  unfold St rests done bufs stgs
  rw [ownSems0_eq, cells_sep (F := F)]
  iintro ⟨⟨#HR, -, Ho, -, Hwf, Hco, Hse, Hre, Hx, Ha, Hbb, Hoo, Hb⟩, HcR, HrR, HwR, HhR⟩
  imod (fam_close m K (Φ := seF c 32 32) (Ψ := fun i => iprop(semVal (cell 0 c i) 0 ∗ semVal (cell 1 c i) 0)) (se_close m K c)) $$ [Hse] with HZ
  · isplitr; · iexact HR
    iexact Hse
  imod (fam_close m K (Φ := reF m c 32 32) (Ψ := fun i => iprop(rAny c i ∗ semVal (cell 2 c i) 0)) (re_close m K c)) $$ [Hre] with HY
  · isplitr; · iexact HR
    iexact Hre
  ihave HZ' := (Entails.of_eq (sep_fam2 (F := F) (fun i => semVal (cell 0 c i) 0) fun i => semVal (cell 1 c i) 0)) $$ HZ
  icases HZ' with ⟨HZ0, HZ1⟩
  ihave HY' := (Entails.of_eq (sep_fam2 (F := F) (rAny c) fun i => semVal (cell 2 c i) 0)) $$ HY
  icases HY' with ⟨Hr, HZ2⟩
  ihave Hc := (last_c m c) $$ Hco
  ihave Hw' := (last_w m c) $$ Hwf
  icases Hw' with ⟨Hh, Hw, Hws⟩
  imodintro
  isplitr [Ho Hx Ha Hbb Hoo]
  · isplitl [Hw HwR Hc HcR Hr HrR]
    · isplitl [Hw HwR]
      · iapply (w_join c); isplitl [Hw] <;> iassumption
      isplitl [Hc HcR]
      · iapply (c_join c); isplitl [Hc] <;> iassumption
      iapply (r_join c); isplitl [Hr] <;> iassumption
    isplitl [Hws HZ0 HZ1 HZ2]
    · isplitl [Hws]; · iexact Hws
      isplitl [HZ0]; · iexact HZ0
      isplitl [HZ1]; · iexact HZ1
      iexact HZ2
    isplitl [Hb]; · iexact Hb
    iapply (h_join m c); isplitl [Hh] <;> iassumption
  isplitl [Ho]; · iexact Ho
  isplitl [Hx]; · iexact Hx
  isplitl [Ha]; · iexact Ha
  isplitl [Hbb]; · iexact Hbb
  iexact Hoo

theorem body_wp (c : Dev nD) {h0 h1 h2 h3 h4 h5 h6 h7} :
    iprop((start m c ∗ bufs c) ∗ owesF c 0 0 ∗ stgs m c 0)
      ⊢ run c (cc0_body xM h0 hM h1 aM h2 bM h3 oM h4 wM h5 cM h6 rM h7 cc0_scratch3 cc0_scratch4 cc0_scratch5 cc0_scratch6)
          (fun _ => iprop(done m c ∗ owesF c 32 32 ∗ stgs m c 32)) := by
  unfold start G'
  iintro ⟨⟨⟨⟨⟨%K, HR⟩, Hg⟩, Hd, Hlev, Hh⟩, Hbuf⟩, Ho, Hs⟩
  ihave HE := (enter m K c) $$ [HR Hg Hd Hlev Hh Hbuf Ho Hs]
  · isplitl [HR Hg]
    · isplitl [HR]; · iexact HR
      iexact Hg
    isplitl [Hd]; · iexact Hd
    isplitl [Hlev]; · iexact Hlev
    isplitl [Hh]; · iexact Hh
    isplitl [Hbuf]; · iexact Hbuf
    isplitl [Ho]; · iexact Ho
    iexact Hs
  icases HE with ⟨HS, HRs⟩
  ihave HW := (body_run m K (c := c) (h0 := h0) (h1 := h1) (h2 := h2) (h3 := h3) (h4 := h4) (h5 := h5) (h6 := h6) (h7 := h7)
    (Q := fun _ => St m K c 32 8 8 32 32 32 32 32 32) (BI.Entails.refl _)) $$ HS
  unfold run
  iapply (wp_fupd frame (wpE (defs₀ (F := F)) 𝒱₀ (c : Thread nD τ) none) Set.univ)
  iapply (wp_wand_r frame (wpE (defs₀ (F := F)) 𝒱₀ (c : Thread nD τ) none) Set.univ)
  isplitl [HW]; · iexact HW
  iintro %a HS
  iapply (leave m K c)
  isplitl [HS]; · iexact HS
  iexact HRs

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => astg m c
    | ⟨2, _⟩ => bstg m c
    | ⟨3, _⟩ => outAll m c
  Φ t := match t with
    | ⟨0, _⟩ => iprop(start m c ∗ bufs c)
    | ⟨_ + 1, _⟩ => done m c
  q _ := fullShare
  owed t := match t with
    | ⟨0, _⟩ => O c 0 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ bufs c) ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(done m c ∗ (dats m 0 c).owesAt () t0_0.succ
    ∗ stg c cc0_stg0_0 (xstg m c) ∗ stg c cc0_stg1_0 (astg m c) ∗ stg c cc0_stg2_0 (bstg m c) ∗ stg c cc0_stg3_0 (outAll m c))

theorem pre_body (c : Dev nD) : bodyPre m c ⊢ iprop((start m c ∗ bufs c) ∗ owesF c 0 0 ∗ stgs m c 0) := by
  unfold bodyPre owesF stgs xPts aPts bPts oPts
  iintro ⟨HS, Ho, ⟨%d0, %g0, %hg0, Hx⟩, ⟨%d1, %g1, %hg1, Ha⟩, ⟨%d2, %g2, %hg2, Hb⟩, ⟨%d3, %g3, %hg3, Hout⟩⟩
  have hx : g0 = xstg m c := by rw [hg0]; unfold Dat.before; rw [if_pos (fetch0_0 t0_0)]; rfl
  have ha : g1 = astg m c := by rw [hg1]; unfold Dat.before; rw [if_pos (fetch0_1 t0_0)]; rfl
  have hb : g2 = bstg m c := by rw [hg2]; unfold Dat.before; rw [if_pos (fetch0_2 t0_0)]; rfl
  subst hx ha hb
  unfold Dat.owesAt Pipeline.owesWithin
  icases Ho with ⟨%W, %hW, HO⟩
  isplitl [HS]; · iexact HS
  isplitl [HO]; · iexists W; iexact HO
  isplitl [Hx]; · iexact Hx
  isplitl [Ha]; · iexact Ha
  isplitl [Hb]; · iexact Hb
  iexists g3; iexact Hout

theorem post_body (c : Dev nD) : iprop(done m c ∗ owesF c 32 32 ∗ stgs m c 32) ⊢ bodyPost m c := by
  unfold bodyPost owesF stgs xPts aPts bPts oPts Dat.owesAt Pipeline.owesWithin
  rw [show (dats m 0 c).owed t0_0.succ = O c 32 32 from (O_end c).symm]
  iintro ⟨HD, ⟨%W, HO⟩, Hx, Ha, Hb, ⟨%f, Hout⟩⟩
  isplitl [HD]; · iexact HD
  isplitl [HO]
  · iexists W
    isplitr; · ipureintro; exact fun _ _ => Or.inl trivial
    iexact HO
  isplitl [Hx]
  · iexists (xstg m c); isplitr; · (ipureintro; rfl)
    iexact Hx
  isplitl [Ha]
  · iexists (astg m c); isplitr; · (ipureintro; rfl)
    iexact Ha
  isplitl [Hb]
  · iexists (bstg m c); isplitr; · (ipureintro; rfl)
    iexact Hb
  iexists (outF m c f 32); isplitr; · (ipureintro; exact outF_all m c f)
  iexact Hout

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

set_option maxRecDepth 8000 in
/-- The library's body obligation on each device. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre m c ⊢ run c
    (cc0_body xM (hstage0_0 0) hM (Memref.isWhole_whole _) aM (hstage0_1 0) bM (hstage0_2 0) oM (hstage0_3 0) wM (Memref.isWhole_whole _)
      cM (Memref.isWhole_whole _) rM (Memref.isWhole_whole _) cc0_scratch3 cc0_scratch4 cc0_scratch5 cc0_scratch6) (fun _ => bodyPost m c)
  refine (pre_body m c).trans ((body_wp m c (h0 := hstage0_0 0) (h1 := Memref.isWhole_whole _) (h2 := hstage0_1 0) (h3 := hstage0_2 0)
    (h4 := hstage0_3 0) (h5 := Memref.isWhole_whole _) (h6 := Memref.isWhole_whole _) (h7 := Memref.isWhole_whole _)).trans ?_)
  unfold run
  exact wp_mono frame (wpE (defs₀ (F := F)) 𝒱₀ (c : Thread nD τ) none) Set.univ fun _ => post_body m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => O d 0 0) c ∗ prngReg c (ρ c) ∗ G' m c)
      ⊢ |={Set.univ}=> iprop(start m c ∗ emp) := by
  rw [Pipeline.unscopedRestP_none, unscopedRest0_eq]
  iintro ⟨Hh, Hlev, Hcr, -, HG⟩
  ihave Hc := (creds (F := F) c) $$ Hcr
  imodintro
  unfold start hPts
  isplitl
  · isplitl [HG]; · iexact HG
    isplitl [Hc]; · iexact Hc
    isplitl [Hlev]; · iexact Hlev
    iexact Hh
  · iempintro

theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ bufs c) from rfl, scopedRest0_eq]
  unfold bufs
  iintro ⟨Hs, -, Hr⟩
  isplitl [Hs]; · iexact Hs
  iexact Hr

theorem phi_exit (c : Dev nD) :
    (dats m 0 c).Φ (Fin.last cfg0.N) ⊢ iprop((unscopedSems0 c ∗ hPts m c) ∗ Pipeline.ownSems0 osem c ∗ Pipeline.scopedRest cfg0.spec c) := by
  rw [show (dats m 0 c).Φ (Fin.last cfg0.N) = done m c from rfl, scopedRest0_eq, unscopedSems0_eq]
  unfold done bufs
  iintro ⟨Hr, Ho, Hb, Hh⟩
  isplitl [Hb Hh]
  · isplitl [Hb] <;> iassumption
  isplitl [Ho]; · iexact Ho
  iexact Hr

theorem stage_low : ∀ (w : Fin 4) (s : Fin (cfg0.spec w).nbuf) (p : Fin 3 × Fin 32), csem p ≠ .dma ((cfg0.spec w).sem s) := by decide +kernel

theorem waits (c : Dev nD) : (levAts L lv : sProp 𝕄) ⊢ Pipeline.cellsWaits cfgs (dats m) () 0 c :=
  Pipeline.cellsWaits_intro cfgs (dats m) () 0 c fun w s t => by
    rcases t with ⟨_ | n, ht⟩
    · exact mayWait_low c _ (lv_none c _ (stage_low w s)) 0 0
    · show (levAts L lv : sProp 𝕄) ⊢ MayWait (c : Thread nD τ) _ () 0
      rw [← O_end c]; exact mayWait_end c _

/-! ## The run -/

def finalA (c : Dev nD) (w : Fin cfg0.W) : Buf (Elt F) ((cfg0.win w).arr.view.loc (c : Thread nD τ)) := (dats m 0 c).arrAt w cfg0.N

/-- What every final state has: the windows' arrays at their final contents, the weights as they were. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

theorem read_final (c : Dev nD) (s' : Phys nD τ sig (Elt F)) :
    iprop((unscopedSems0 c ∗ hPts m c) ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ (SI s' : sProp 𝕄)) := by
  unfold hPts
  iintro ⟨⟨Hu, Hh⟩, -, HSI⟩
  icombine HSI Hh gives %h
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ h⟩
  iexact HSI

set_option maxRecDepth 8000 in
/-- From any memory, every weakly fair execution of the 32 devices finishes; every final state has the windows' arrays at
    their final contents, the weights as they were, and every semaphore counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => O d 0 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HB⟩
      ihave H2 := (own_pair_emb EB _ _) $$ HB
      icases H2 with ⟨HX, -⟩
      imod (fund_ex m) $$ HX with HG
      imodintro
      isplitl [HP] <;> iassumption)
    (hglob := glob m)
    (hA := fun _ _ => rfl) (hpf := fun _ k => k.elim0)
    (X := start m) (Y := fun c => iprop(unscopedSems0 c ∗ hPts m c)) (Z := fun _ => iprop(emp))
    (hX := start_intro m ρ) (hin := phi_intro m) (hout := phi_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_final m)
    (hQ := fun _ h hs => ⟨fun c => ⟨(h c).1, (h c).2.2.2⟩, sem_eq_zero hs fun c => (h c).2.2.1⟩)

end Cert.Run
-- ==== Proof.Frames.lean ====
/-
# The frames and the result array

Read off the run: the arguments are as they were, every counter is at zero, and device `c`'s result array is `outAll m c`.
-/
module

public import proofs.«01_k».proof.Proof.Launch
public import proofs.«01_k».proof.Defs
public import proofs.«01_k».proof.Proof.Gen.Kernel
public import Idealize.ShloMosaic.Lib.Pipeline.Value

@[expose] public section

noncomputable section
namespace Cert.Run
open Cert.KernelIdeal Cert.KernelIdeal.Gen
open Idealize.ShloMosaic
open Idealize.ShloMosaic.TcCoe
open Idealize.SL.Sem
variable {F : FTy → Type} [FloatOps F]
variable (m : (ℓ : Loc nD τ sig) → Buf (Elt F) ℓ) (ρ : Dev nD → PrngReg)

theorem final_x (c : Dev nD) : finalA m c (0 : Fin 4) = m ((c : Thread nD τ).loc main_arg0) := (dats m 0 c).arrAt_in (0 : Fin 4) rfl _
theorem final_a (c : Dev nD) : finalA m c (1 : Fin 4) = m ((c : Thread nD τ).loc main_arg2) := (dats m 0 c).arrAt_in (1 : Fin 4) rfl _
theorem final_b (c : Dev nD) : finalA m c (2 : Fin 4) = m ((c : Thread nD τ).loc main_arg3) := (dats m 0 c).arrAt_in (2 : Fin 4) rfl _

/-- The only block of the result window is the whole array. -/
theorem blk_emb (x : S4096x64.Idx) : (win0_3.blk (0 : Fin 1)).view.emb x = x := by
  refine Shape.idx_ext₂ ?_ ?_
  · show 0 * 4096 + 1 * (x 0).val = (x 0).val; omega
  · show 0 * 64 + 1 * (x 1).val = (x 1).val; omega

theorem final_o (c : Dev nD) : finalA m c (3 : Fin 4) = outAll m c :=
  (dats m 0 c).arrAt_eq_of_cover (3 : Fin 4) (outAll m c)
    (fun t _ => by
      rw [fin_N0 t]
      funext x
      exact (congrArg (outAll m c) (blk_emb x)).symm)
    (fun i => ⟨t0_0, flush0_3 _, by
      have h := View.emb_mem_set (win0_3.blk (0 : Fin 1)).view (i : S4096x64.Idx)
      rw [blk_emb] at h
      exact h⟩)

/-- Every final state: the result, the arguments, the counters. -/
theorem run_all : θ_run defs (onTc (τ := τ) (main (F := F))) ⟨m, fun _ => 0, ρ⟩ (fun r => (∀ c : Dev nD,
    r.2.mem ((c : Thread nD τ).loc main_v1) = outAll m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c =>
    ⟨((h.1 c).1 (3 : Fin 4)).trans (final_o m c), ((h.1 c).1 (0 : Fin 4)).trans (final_x m c), (h.1 c).2,
      ((h.1 c).1 (1 : Fin 4)).trans (final_a m c), ((h.1 c).1 (2 : Fin 4)).trans (final_b m c)⟩, h.2⟩) (run_main m ρ)

/-- The same without the result. -/
theorem run_frame : θ_run defs (onTc (τ := τ) (main (F := F))) ⟨m, fun _ => 0, ρ⟩ (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => (h.1 c).2, h.2⟩) (run_all m ρ)

theorem frame_ideal : Cert.quiescent_KernelIdeal := fun m ρ _ => run_frame (F := Ideal) m ρ

end Cert.Run
-- ==== Proof.FrameK.lean ====
/-
# The frame of the program as printed

It is the idealized program's text, operation for operation, so its run is the same run at the machine's own floats.
-/
module

public import proofs.«01_k».proof.Proof.Frames
public import proofs.«01_k».proof.Proof.Gen.Kernel

@[expose] public section

noncomputable section
namespace Cert.Run
open Cert.KernelIdeal Cert.KernelIdeal.Gen
open Idealize.ShloMosaic
open Idealize.ShloMosaic.TcCoe
open Idealize.SL.Sem

set_option maxRecDepth 100000

theorem body_same : @Cert.Kernel.cc0_body Bits _ Cert.Kernel.Gen.facts = @Cert.KernelIdeal.cc0_body Bits _ Cert.KernelIdeal.Gen.facts := rfl

theorem table_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  rcases l with ⟨_ | n, h⟩
  · rfl
  · exact absurd h (Nat.not_lt.2 (Nat.le_add_left _ _))

theorem defs_same : @Cert.Kernel.defs Bits _ Cert.Kernel.Gen.facts = @Cert.KernelIdeal.defs Bits _ Cert.KernelIdeal.Gen.facts :=
  congrArg (Pipeline.defs _) table_same

theorem main_same : @Cert.Kernel.main Bits _ = @Cert.KernelIdeal.main Bits _ := rfl

theorem frame_kernel : Cert.quiescent_Kernel := fun m ρ _ => by
  rw [defs_same, main_same]
  exact run_frame (F := Bits) m ρ

end Cert.Run
-- ==== Proof.Value.lean ====
/-
# The value

At the ideal values, entry `(128·u + p, l)` of device `c`'s result is `y · (1 / (1 + e⁻ʸ))` at row `128·u + p`, column
`64·c + l` of the whole product scaled; the reference's is `y / (1 + e⁻ʸ)` at the same `y`.
-/
module

public import proofs.«01_k».proof.Proof.Frames
public import Idealize.ShloMosaic.Lib.StackMember
public import Idealize.ShloMosaic.Lib.IdealHost
public import Idealize.ShloMosaic.Lib.Pipeline.Value
public import proofs.«01_k».proof.Proof.Gen.ReferenceIdeal.Run

@[expose] public section

noncomputable section
namespace Cert.Run
open Cert.KernelIdeal Cert.KernelIdeal.Gen
open Idealize.ShloMosaic
open Idealize.ShloMosaic.TcCoe
open Idealize.ShloMosaic.ValueIdx
open Idealize.SL.Sem
variable (m : (ℓ : Loc nD τ sig) → Buf (Elt Ideal) ℓ)

/-! ## The activation -/

theorem exp_nonneg (y : EReal) : 0 ≤ Ideal.exp y := by
  induction y with
  | bot => exact le_refl _
  | top => exact le_top
  | coe r => exact EReal.coe_nonneg.mpr (Real.exp_pos r).le

theorem one_add_exp_ne (y : EReal) : 1 + Ideal.exp y ≠ 0 := by
  have h : (1 : EReal) ≤ 1 + Ideal.exp y := le_add_of_nonneg_right (exp_nonneg y)
  exact (lt_of_lt_of_le zero_lt_one h).ne'

/-- Times the logistic is the quotient. -/
theorem mul_logistic (y : EReal) : y * Ideal.logistic y = Ideal.div y (1 + Ideal.exp (-y)) := by
  unfold Ideal.logistic Ideal.div
  rw [if_neg (one_add_exp_ne _), if_neg (one_add_exp_ne _), one_mul]

/-- The activation, as the reference has it. -/
def act (y : EReal) : EReal := Ideal.div y (1 + Ideal.exp (-y))

/-! ## The kernel's entries -/

/-- The whole arrays, read off the devices: row block `u` of `x` is device `u`'s. -/
abbrev xarr (c : Dev nD) : S128x4096.Idx → EReal := m ((c : Thread nD τ).loc main_arg0)
abbrev warr (c : Dev nD) : S4096x2048.Idx → EReal := m ((c : Thread nD τ).loc main_arg1)
abbrev aarr (c : Dev nD) : S1.Idx → EReal := m ((c : Thread nD τ).loc main_arg2)
abbrev barr (c : Dev nD) : S1.Idx → EReal := m ((c : Thread nD τ).loc main_arg3)

theorem xval_at (c : Dev nD) (p : Fin 128) (k : Fin 4096) : xval m c (ix2 p k) = xarr m c (ix2 p k) := by
  show m ((c : Thread nD τ).loc main_arg0) _ = _
  refine congrArg (m ((c : Thread nD τ).loc main_arg0)) (Shape.idx_ext₂ ?_ ?_)
  · show 0 * 128 + 1 * (0 + 1 * p.val) = p.val; omega
  · show 0 * 4096 + 1 * (0 + 1 * k.val) = k.val; omega

theorem S1_one (i j : S1.Idx) : i = j := funext fun a => by
  have h1 : S1.size a = 1 := by fin_cases a; rfl
  have := (i a).isLt; have := (j a).isLt
  exact Fin.ext (by omega)

theorem aval_at (c : Dev nD) (i : S1.Idx) : aval m c = aarr m c i := by
  show m ((c : Thread nD τ).loc main_arg2) _ = _
  exact congrArg (m ((c : Thread nD τ).loc main_arg2)) (S1_one _ _)
theorem bval_at (c : Dev nD) (i : S1.Idx) : bval m c = barr m c i := by
  show m ((c : Thread nD τ).loc main_arg3) _ = _
  exact congrArg (m ((c : Thread nD τ).loc main_arg3)) (S1_one _ _)

theorem wcol_at (c : Dev nD) (k : Fin 8) (r : Fin 4096) (q : Fin 256) :
    wcol m c k (ix2 r q) = warr m c (ix2 r ⟨256 * k.val + q.val, by omega⟩) := by
  show m ((c : Thread nD τ).loc main_arg1) _ = _
  refine congrArg (m ((c : Thread nD τ).loc main_arg1)) (Shape.idx_ext₂ ?_ ?_)
  · show 0 + 1 * r.val = r.val; omega
  · show 256 * k.val + 1 * q.val = 256 * k.val + q.val; omega

/-- A transposed product of a K×M by an N×K matrix, read at an entry. -/
theorem matmul_at (lhs : FVec Ideal S4096x256 .f32) (rhs : FVec Ideal S128x4096 .f32) (q : Fin 256) (p : Fin 128) :
    matmul dot_S4096x256_S128x4096_S256x128_0_1_1_0_n_n none lhs rhs (constant S256x128 .f32 0x00000000#32) (ix2 q p)
      = ∑ k : Fin 4096, lhs (ix2 k q) * rhs (ix2 p k) := by
  show FloatOps.matmul _ none lhs rhs _ (ix2 q p) = _
  rw [Ideal.matmul_constant_zero_apply,
    ← Equiv.sum_comp (contrEquiv1 dot_S4096x256_S128x4096_S256x128_0_1_1_0_n_n 4096 rfl rfl).symm]
  refine Finset.sum_congr rfl fun k _ => ?_
  have hk := contrEquiv1_symm_val dot_S4096x256_S128x4096_S256x128_0_1_1_0_n_n 4096 rfl rfl k
  congr 1
  · refine congrArg lhs (Shape.idx_ext₂ ?_ ?_)
    · exact hk
    · rfl
  · refine congrArg rhs (Shape.idx_ext₂ ?_ ?_)
    · rfl
    · exact hk

/-- The one index of the scales. -/
def o1 : S1.Idx := fun a => ⟨0, by fin_cases a; exact Nat.one_pos⟩

/-- What the activation is applied to, at row `p` of device `u`'s rows and column `l` of the weights. -/
def pre (u : Dev nD) (p : Fin 128) (l : Fin 2048) : EReal :=
  (∑ k : Fin 4096, xarr m u (ix2 p k) * warr m u (ix2 k l)) * (aarr m u o1 * barr m u o1)

theorem chunk_at (c : Dev nD) (k : Fin 8) (q : Fin 256) (p : Fin 128) :
    chunk m c k (ix2 q p) = act (pre m c p ⟨256 * k.val + q.val, by omega⟩) := by
  have hy : (mulf (matmul dot_S4096x256_S128x4096_S256x128_0_1_1_0_n_n none (shapeCast S4096x256 (wwide m c k) shapeCasts_S1x4096x256_S4096x256 : FVec Ideal S4096x256 .f32)
      (k0_pay2 (xval m c)) (constant S256x128 .f32 0x00000000#32)) (broadcast S256x128 (k0_pay1 (aval m c) (bval m c))) : FVec Ideal S256x128 .f32) (ix2 q p)
      = pre m c p ⟨256 * k.val + q.val, by omega⟩ := by
    show (matmul (F := Ideal) (φ₁ := .f32) (φ₂ := .f32) _ none _ _ _ (ix2 q p) : EReal) * (aval m c * bval m c : EReal) = _
    rw [matmul_at, aval_at m c o1, bval_at m c o1]
    unfold pre wwide k0_pay2
    simp only [shapeCast_shapeCast, shapeCast_self]
    congr 1
    refine Finset.sum_congr rfl fun r _ => ?_
    rw [wcol_at, xval_at, mul_comm]
  show ((mulf _ _ : FVec Ideal S256x128 .f32) (ix2 q p) : EReal) * Ideal.logistic ((mulf _ _ : FVec Ideal S256x128 .f32) (ix2 q p)) = _
  rw [mul_logistic]
  exact congrArg act hy

theorem outw_at (c u : Dev nD) (p : Fin 128) (q : Fin 64) :
    outw m c u (ix2 p q) = act (pre m u p ⟨64 * c.val + q.val, by have := c.isLt; unfold nD at this; omega⟩) := by
  have hc : c.val < 32 := c.isLt
  have h1 : outw m c u (ix2 p q) = cut m u c (ix2 q p) := by
    unfold outw k0_pay84 blkw
    rw [shapeCast_shapeCast]
    show transpose S128x64 [1, 0] (cut m u c) transposes_S64x128_p1_0_S128x64 (ix2 p q) = _
    exact transpose_apply _ _ _ _ (ix2 q p) fun b => by fin_cases b <;> rfl
  rw [h1]
  unfold cut
  rw [extractStridedSlice_apply _ _ _ _ (ix2 (⟨64 * (c.val % 4) + q.val, by omega⟩ : Fin 256) p)
    (fun a => by fin_cases a <;> [rfl; exact (Nat.zero_add _).symm])]
  rw [chunk_at]
  refine congrArg (fun l => act (pre m u p l)) (Fin.ext ?_)
  show 256 * (c.val / 4) + (64 * (c.val % 4) + q.val) = 64 * c.val + q.val
  omega

theorem out_at (c u : Dev nD) (p : Fin 128) (q : Fin 64) :
    outAll m c (ix2 (⟨128 * u.val + p.val, by have := u.isLt; unfold nD at this; omega⟩ : Fin 4096) q)
      = act (pre m u p ⟨64 * c.val + q.val, by have := c.isLt; unfold nD at this; omega⟩) := by
  rw [← outw_at, ← outAll_at]
  refine congrArg (outAll m c) (Shape.idx_ext₂ ?_ ?_)
  · show 128 * u.val + p.val = 128 * u.val + 1 * p.val; omega
  · show q.val = 0 + 1 * q.val; omega

end Cert.Run
-- ==== Proof.Agree.lean ====
/-
# The two programs agree

The reference's product at row `128·u + p`, column `64·c + q` is device `u`'s sum there, so device `c`'s result is its block
of columns of the reference's.
-/
module

public import proofs.«01_k».proof.Proof.Value

@[expose] public section

noncomputable section
namespace Cert.Agree
open Idealize.ShloMosaic
open Idealize.ShloMosaic.TcCoe
open Idealize.ShloMosaic.ValueIdx
open Idealize.SL.Sem
open Cert.ReferenceIdeal Cert.ReferenceIdeal.Gen

/-- What the reference returns, from its arguments. -/
def ref (A : FVec Ideal S4096x4096 .f32) (B : FVec Ideal S4096x2048 .f32) (a b : FVec Ideal S1 .f32) : FVec Ideal S4096x2048 .f32 :=
  Host.divf (mulf (Host.dotGeneral dot_S4096x4096_S4096x2048_S4096x2048_1_0_0_1_n_n none A B) (broadcastInDim S4096x2048 ![0, 1] bcast_S1x1_S4096x2048_0_1 (broadcastInDim S1x1 ![1] bcast_S1_S1x1_1 (mulf a b)))) (addf (broadcastInDim S4096x2048 ![] bcast_S_S4096x2048 (constant S_ .f32 0x3F800000#32)) (Host.exp (Host.negf (mulf (Host.dotGeneral dot_S4096x4096_S4096x2048_S4096x2048_1_0_0_1_n_n none A B) (broadcastInDim S4096x2048 ![0, 1] bcast_S1x1_S4096x2048_0_1 (broadcastInDim S1x1 ![1] bcast_S1_S1x1_1 (mulf a b)))))))

/-- Its scaled product at an entry. -/
def dots (A : FVec Ideal S4096x4096 .f32) (B : FVec Ideal S4096x2048 .f32) (a b : FVec Ideal S1 .f32) (r : Fin 4096) (l : Fin 2048) : EReal :=
  (∑ k : Fin 4096, (A (ix2 r k) : EReal) * B (ix2 k l)) * ((a Cert.Run.o1 : EReal) * b Cert.Run.o1)

theorem scaled_at (A : FVec Ideal S4096x4096 .f32) (B : FVec Ideal S4096x2048 .f32) (a b : FVec Ideal S1 .f32) (r : Fin 4096) (l : Fin 2048) :
    (mulf (Host.dotGeneral dot_S4096x4096_S4096x2048_S4096x2048_1_0_0_1_n_n none A B) (broadcastInDim S4096x2048 ![0, 1] bcast_S1x1_S4096x2048_0_1 (broadcastInDim S1x1 ![1] bcast_S1_S1x1_1 (mulf a b))) : FVec Ideal S4096x2048 .f32) (ix2 r l)
      = dots A B a b r l := by
  have hb : ∀ i : S4096x2048.Idx, (broadcastInDim S4096x2048 ![0, 1] bcast_S1x1_S4096x2048_0_1 (broadcastInDim S1x1 ![1] bcast_S1_S1x1_1 (mulf a b)) : FVec Ideal S4096x2048 .f32) i
      = ((a Cert.Run.o1 : EReal) * b Cert.Run.o1 : EReal) := fun i => by
    show (mulf a b : FVec Ideal S1 .f32) _ = _
    exact congrArg (mulf a b : FVec Ideal S1 .f32) (Cert.Run.S1_one _ Cert.Run.o1)
  have hd : (Host.dotGeneral dot_S4096x4096_S4096x2048_S4096x2048_1_0_0_1_n_n none A B : FVec Ideal S4096x2048 .f32) (ix2 r l)
      = (∑ k : Fin 4096, (A (ix2 r k) : EReal) * B (ix2 k l) : EReal) := StackMember.dotGeneral_plain_apply (m := 4096) (n := 2048) (k := 4096) none A B r l
  have h := congr (congrArg (fun x y : EReal => x * y) hd) (hb (ix2 r l))
  exact h

theorem ref_at (A : FVec Ideal S4096x4096 .f32) (B : FVec Ideal S4096x2048 .f32) (a b : FVec Ideal S1 .f32) (r : Fin 4096) (l : Fin 2048) :
    ref A B a b (ix2 r l) = Cert.Run.act (dots A B a b r l) := by
  rw [← scaled_at]
  unfold Cert.Run.act
  rw [← Ideal.ofBits_one_f32]
  rfl

variable (m : (ℓ : Loc Cert.KernelIdeal.nD Cert.KernelIdeal.τ Cert.KernelIdeal.sig) → Buf (Elt Ideal) ℓ)

/-- Device `c`'s result is its block of columns of the reference's. -/
theorem agree (A : FVec Ideal S4096x4096 .f32) (B : FVec Ideal S4096x2048 .f32) (a b : FVec Ideal S1 .f32)
    (hx : ∀ c, Cert.Run.xarr m c = Layout.block ⟨2, ![128, 4096]⟩ ⟨2, ![4096, 4096]⟩ 0 32 c A)
    (hw : ∀ c, Cert.Run.warr m c = B) (ha : ∀ c, Cert.Run.aarr m c = a) (hb : ∀ c, Cert.Run.barr m c = b) (c : Dev Cert.KernelIdeal.nD) :
    Cert.Run.outAll m c = Layout.block ⟨2, ![4096, 64]⟩ ⟨2, ![4096, 2048]⟩ 1 32 c (ref A B a b) := by
  have hc : c.val < 32 := c.isLt
  funext i
  obtain ⟨r, q, rfl⟩ : ∃ (r : Fin 4096) (q : Fin 64), i = ix2 r q := ⟨i 0, i 1, eq_ix2 i⟩
  obtain ⟨u, p, rfl⟩ : ∃ (u : Fin 32) (p : Fin 128), r = ⟨128 * u.val + p.val, by omega⟩ :=
    ⟨⟨r.val / 128, by omega⟩, ⟨r.val % 128, by omega⟩, Fin.ext (by show r.val = 128 * (r.val / 128) + r.val % 128; omega)⟩
  have hp : Cert.Run.pre m u p ⟨64 * c.val + q.val, by omega⟩ = dots A B a b ⟨128 * u.val + p.val, by omega⟩ ⟨64 * c.val + q.val, by omega⟩ := by
    unfold Cert.Run.pre dots
    rw [hx u, hw u, ha u, hb u]
    refine congrArg (· * _) (Finset.sum_congr rfl fun k _ => congrArg (· * _) ?_)
    rw [Layout.block_apply]
    refine congrArg A (Shape.idx_ext₂ ?_ ?_)
    · show u.val * 128 + p.val = 128 * u.val + p.val; omega
    · rfl
  refine (Cert.Run.out_at m c u p q).trans ?_
  rw [hp, ← ref_at, Layout.block_apply]
  refine congrArg (ref A B a b) (Shape.idx_ext₂ ?_ ?_)
  · rfl
  · show 64 * c.val + q.val = c.val * 64 + q.val; omega

theorem frame_reference : Cert.quiescent_ReferenceIdeal := fun m ρ _ =>
  (θ_run defs _ _).mono (fun r h => ⟨fun c => (h c).2, sem_eq_zero_of_no_sems (by decide) r.2⟩) (Cert.ReferenceIdeal.Value.run (F := Ideal) m ρ)

theorem algebraic : Cert.algebraic_KernelIdeal_ReferenceIdeal := fun m g m' g' _ hm => by
  refine ⟨ref (m' (((0 : Dev nD) : Thread nD τ).loc main_arg0)) (m' (((0 : Dev nD) : Thread nD τ).loc main_arg1))
    (m' (((0 : Dev nD) : Thread nD τ).loc main_arg2)) (m' (((0 : Dev nD) : Thread nD τ).loc main_arg3)), ?_, ?_⟩
  · exact (θ_run Cert.KernelIdeal.defs _ _).mono (fun _ h c =>
      ⟨(h.1 c).1.trans (agree m _ _ _ _ (fun c => (hm c).1) (fun c => (hm c).2.1) (fun c => (hm c).2.2.1) (fun c => (hm c).2.2.2) c), (h.1 c).2⟩)
      (Cert.Run.run_all (F := Ideal) m g)
  · exact (θ_run defs _ _).mono (fun _ h => h 0) (Cert.ReferenceIdeal.Value.run (F := Ideal) m' g')

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameK
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Run.frame_kernel, Cert.Run.frame_ideal, Cert.Agree.frame_reference, trivial, Cert.Agree.algebraic⟩

end Cert.Proof

end
